-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![512, 4096]⟩ (Layout.meshBlock [2, 2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![512, 4096]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S512x512 : Shape := ⟨2, ![512, 512]⟩
abbrev S128x512 : Shape := ⟨2, ![128, 512]⟩
abbrev S8 : Shape := ⟨1, ![8]⟩
abbrev S_ : Shape := ⟨0, ![]⟩
abbrev S32x2048 : Shape := ⟨2, ![32, 2048]⟩
abbrev S32x512 : Shape := ⟨2, ![32, 512]⟩
abbrev S1 : Shape := ⟨1, ![1]⟩
abbrev S16x512 : Shape := ⟨2, ![16, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x512, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S128x512, .bf16⟩
  | .local _ .vmem, ⟨4, _⟩ => ⟨S128x512, .bf16⟩
  | .local _ .vmem, ⟨5, _⟩ => ⟨S512x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_16 : BitVec 32 := 2#32
  let v27 : BitVec 32 := Scalar.muli v9 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_22 : BitVec 32 := 1#32
  let v35 : BitVec 32 := Scalar.muli v10 c1_i32_22
  let v36 : BitVec 32 := Scalar.addi v34 v35
  v36.toNat
def k0_dev3 (d0 : Dev nD) : Nat :=
  let c0_i32_25 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_24 : BitVec 32 := 4#32
  let v37 : BitVec 32 := Scalar.muli v11 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_off1 (d0 : Dev nD) (c0_i32_28 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32 : BitVec 32 := 128#32
  let v43 : BitVec 32 := Scalar.muli v13 c128_i32
  let v44 : BitVec 32 := Scalar.addi v43 c0_i32_28
  let v45 : Index := Scalar.indexCast v44
  let c0 : Index := 0#32
  ![v45.toNat, 0]
def k0_off2 (d0 : Dev nD) (c0_i32_28 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32 : BitVec 32 := 128#32
  let v43 : BitVec 32 := Scalar.muli v13 c128_i32
  let v44 : BitVec 32 := Scalar.addi v43 c0_i32_28
  let v51 : Index := Scalar.indexCast v44
  let c0_31 : Index := 0#32
  ![v51.toNat, 0]
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_39 : BitVec 32 := 2#32
  let v62 : BitVec 32 := Scalar.muli v9 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev5 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v89 : BitVec 32 := Scalar.muli v2 c4_i32_55
  let v90 : BitVec 32 := Scalar.addi c0_i32_56 v89
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_57 : BitVec 32 := 2#32
  let v91 : BitVec 32 := Scalar.muli v9 c2_i32_57
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v93 : BitVec 32 := Scalar.muli v8 c1_i32_58
  let v94 : BitVec 32 := Scalar.addi v92 v93
  v94.toNat
def k0_dev6 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v118 : BitVec 32 := Scalar.muli v2 c4_i32_72
  let v119 : BitVec 32 := Scalar.addi c0_i32_73 v118
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_74 : BitVec 32 := 2#32
  let v120 : BitVec 32 := Scalar.muli v9 c2_i32_74
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v122 : BitVec 32 := Scalar.muli v8 c1_i32_75
  let v123 : BitVec 32 := Scalar.addi v121 v122
  v123.toNat
def k0_dev7 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v147 : BitVec 32 := Scalar.muli v2 c4_i32_88
  let v148 : BitVec 32 := Scalar.addi c0_i32_89 v147
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_90 : BitVec 32 := 2#32
  let v149 : BitVec 32 := Scalar.muli v9 c2_i32_90
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v151 : BitVec 32 := Scalar.muli v8 c1_i32_91
  let v152 : BitVec 32 := Scalar.addi v150 v151
  v152.toNat
def k0_off3 (d0 : Dev nD) (c0_i32_116 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_115 : BitVec 32 := 128#32
  let v186 : BitVec 32 := Scalar.muli v13 c128_i32_115
  let v187 : BitVec 32 := Scalar.addi v186 c0_i32_116
  let c0_i32_127 : BitVec 32 := 0#32
  ![v187.toNat, 0]
def k0_dev8 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v192 : BitVec 32 := Scalar.muli v2 c4_i32_123
  let v193 : BitVec 32 := Scalar.addi c0_i32_124 v192
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_125 : BitVec 32 := 2#32
  let v194 : BitVec 32 := Scalar.muli v5 c2_i32_125
  let v195 : BitVec 32 := Scalar.addi v193 v194
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_126 : BitVec 32 := 1#32
  let v196 : BitVec 32 := Scalar.muli v10 c1_i32_126
  let v197 : BitVec 32 := Scalar.addi v195 v196
  v197.toNat
def k0_dev9 (d0 : Dev nD) : Nat :=
  let c0_i32_132 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_131 : BitVec 32 := 4#32
  let v204 : BitVec 32 := Scalar.muli v11 c4_i32_131
  let v205 : BitVec 32 := Scalar.addi c0_i32_132 v204
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v206 : BitVec 32 := Scalar.muli v5 c2_i32_133
  let v207 : BitVec 32 := Scalar.addi v205 v206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v208 : BitVec 32 := Scalar.muli v8 c1_i32_134
  let v209 : BitVec 32 := Scalar.addi v207 v208
  v209.toNat
def k0_dev10 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_164 : BitVec 32 := 4#32
  let v249 : BitVec 32 := Scalar.muli v2 c4_i32_164
  let v250 : BitVec 32 := Scalar.addi c0_i32_165 v249
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_166 : BitVec 32 := 2#32
  let v251 : BitVec 32 := Scalar.muli v5 c2_i32_166
  let v252 : BitVec 32 := Scalar.addi v250 v251
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_167 : BitVec 32 := 1#32
  let v253 : BitVec 32 := Scalar.muli v10 c1_i32_167
  let v254 : BitVec 32 := Scalar.addi v252 v253
  v254.toNat
def k0_dev11 (d0 : Dev nD) : Nat :=
  let c0_i32_173 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_172 : BitVec 32 := 4#32
  let v261 : BitVec 32 := Scalar.muli v11 c4_i32_172
  let v262 : BitVec 32 := Scalar.addi c0_i32_173 v261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v263 : BitVec 32 := Scalar.muli v5 c2_i32_174
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v265 : BitVec 32 := Scalar.muli v8 c1_i32_175
  let v266 : BitVec 32 := Scalar.addi v264 v265
  v266.toNat
def k0_dev12 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v306 : BitVec 32 := Scalar.muli v2 c4_i32_205
  let v307 : BitVec 32 := Scalar.addi c0_i32_206 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v308 : BitVec 32 := Scalar.muli v5 c2_i32_207
  let v309 : BitVec 32 := Scalar.addi v307 v308
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_208 : BitVec 32 := 1#32
  let v310 : BitVec 32 := Scalar.muli v10 c1_i32_208
  let v311 : BitVec 32 := Scalar.addi v309 v310
  v311.toNat
def k0_dev13 (d0 : Dev nD) : Nat :=
  let c0_i32_214 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_213 : BitVec 32 := 4#32
  let v318 : BitVec 32 := Scalar.muli v11 c4_i32_213
  let v319 : BitVec 32 := Scalar.addi c0_i32_214 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v320 : BitVec 32 := Scalar.muli v5 c2_i32_215
  let v321 : BitVec 32 := Scalar.addi v319 v320
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v322 : BitVec 32 := Scalar.muli v8 c1_i32_216
  let v323 : BitVec 32 := Scalar.addi v321 v322
  v323.toNat
def k0_dev14 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v363 : BitVec 32 := Scalar.muli v2 c4_i32_246
  let v364 : BitVec 32 := Scalar.addi c0_i32_247 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_248 : BitVec 32 := 2#32
  let v365 : BitVec 32 := Scalar.muli v5 c2_i32_248
  let v366 : BitVec 32 := Scalar.addi v364 v365
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_249 : BitVec 32 := 1#32
  let v367 : BitVec 32 := Scalar.muli v10 c1_i32_249
  let v368 : BitVec 32 := Scalar.addi v366 v367
  v368.toNat
def k0_dev15 (d0 : Dev nD) : Nat :=
  let c0_i32_255 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_254 : BitVec 32 := 4#32
  let v375 : BitVec 32 := Scalar.muli v11 c4_i32_254
  let v376 : BitVec 32 := Scalar.addi c0_i32_255 v375
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_256 : BitVec 32 := 2#32
  let v377 : BitVec 32 := Scalar.muli v5 c2_i32_256
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v379 : BitVec 32 := Scalar.muli v8 c1_i32_257
  let v380 : BitVec 32 := Scalar.addi v378 v379
  v380.toNat
def k0_off4 (d0 : Dev nD) (c0_i32_271 : BitVec 32) : Fin 2 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_7 v2
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c128_i32_270 : BitVec 32 := 128#32
  let v399 : BitVec 32 := Scalar.muli v16 c128_i32_270
  let v400 : BitVec 32 := Scalar.addi v399 c0_i32_271
  let c0_i32_278 : BitVec 32 := 0#32
  ![v400.toNat, 0]
def k0_dev16 (d0 : Dev nD) : Nat :=
  let c0_i32_275 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_274 : BitVec 32 := 4#32
  let v401 : BitVec 32 := Scalar.muli v11 c4_i32_274
  let v402 : BitVec 32 := Scalar.addi c0_i32_275 v401
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v403 : BitVec 32 := Scalar.muli v5 c2_i32_276
  let v404 : BitVec 32 := Scalar.addi v402 v403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v405 : BitVec 32 := Scalar.muli v8 c1_i32_277
  let v406 : BitVec 32 := Scalar.addi v404 v405
  v406.toNat
def k0_off5 (d0 : Dev nD) (c0_i32_281 : BitVec 32) : Fin 2 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_7 v2
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c128_i32_280 : BitVec 32 := 128#32
  let v413 : BitVec 32 := Scalar.muli v16 c128_i32_280
  let v414 : BitVec 32 := Scalar.addi v413 c0_i32_281
  let v415 : Index := Scalar.indexCast v414
  let c0_282 : Index := 0#32
  ![v415.toNat, 0]
def k0_off6 (d0 : Dev nD) (c0_i32_295 : BitVec 32) : Fin 2 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c128_i32_294 : BitVec 32 := 128#32
  let v433 : BitVec 32 := Scalar.muli v19 c128_i32_294
  let v434 : BitVec 32 := Scalar.addi v433 c0_i32_295
  let c16_i32_296 : BitVec 32 := 16#32
  let v435 : BitVec 32 := Scalar.addi v434 c16_i32_296
  let c0_i32_303 : BitVec 32 := 0#32
  ![v435.toNat, 0]
def k0_dev17 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v436 : BitVec 32 := Scalar.muli v2 c4_i32_299
  let v437 : BitVec 32 := Scalar.addi c0_i32_300 v436
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v438 : BitVec 32 := Scalar.muli v5 c2_i32_301
  let v439 : BitVec 32 := Scalar.addi v437 v438
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_302 : BitVec 32 := 1#32
  let v440 : BitVec 32 := Scalar.muli v10 c1_i32_302
  let v441 : BitVec 32 := Scalar.addi v439 v440
  v441.toNat
def k0_off7 (d0 : Dev nD) (c0_i32_306 : BitVec 32) : Fin 2 → Nat :=
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c128_i32_305 : BitVec 32 := 128#32
  let v448 : BitVec 32 := Scalar.muli v19 c128_i32_305
  let v449 : BitVec 32 := Scalar.addi v448 c0_i32_306
  let v450 : Index := Scalar.indexCast v449
  let c0_307 : Index := 0#32
  ![v450.toNat, 0]
def k0_dev18 (d0 : Dev nD) : Nat :=
  let c0_i32_324 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_323 : BitVec 32 := 4#32
  let v469 : BitVec 32 := Scalar.muli v11 c4_i32_323
  let v470 : BitVec 32 := Scalar.addi c0_i32_324 v469
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v471 : BitVec 32 := Scalar.muli v5 c2_i32_325
  let v472 : BitVec 32 := Scalar.addi v470 v471
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v473 : BitVec 32 := Scalar.muli v8 c1_i32_326
  let v474 : BitVec 32 := Scalar.addi v472 v473
  v474.toNat
def k0_dev19 (d0 : Dev nD) : Nat :=
  let c0_i32_350 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_349 : BitVec 32 := 4#32
  let v504 : BitVec 32 := Scalar.muli v2 c4_i32_349
  let v505 : BitVec 32 := Scalar.addi c0_i32_350 v504
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_351 : BitVec 32 := 2#32
  let v506 : BitVec 32 := Scalar.muli v5 c2_i32_351
  let v507 : BitVec 32 := Scalar.addi v505 v506
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_352 : BitVec 32 := 1#32
  let v508 : BitVec 32 := Scalar.muli v10 c1_i32_352
  let v509 : BitVec 32 := Scalar.addi v507 v508
  v509.toNat
def k0_dev20 (d0 : Dev nD) : Nat :=
  let c0_i32_374 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_373 : BitVec 32 := 4#32
  let v537 : BitVec 32 := Scalar.muli v11 c4_i32_373
  let v538 : BitVec 32 := Scalar.addi c0_i32_374 v537
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_375 : BitVec 32 := 2#32
  let v539 : BitVec 32 := Scalar.muli v5 c2_i32_375
  let v540 : BitVec 32 := Scalar.addi v538 v539
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_376 : BitVec 32 := 1#32
  let v541 : BitVec 32 := Scalar.muli v8 c1_i32_376
  let v542 : BitVec 32 := Scalar.addi v540 v541
  v542.toNat
def k0_dev21 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v572 : BitVec 32 := Scalar.muli v2 c4_i32_399
  let v573 : BitVec 32 := Scalar.addi c0_i32_400 v572
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v574 : BitVec 32 := Scalar.muli v5 c2_i32_401
  let v575 : BitVec 32 := Scalar.addi v573 v574
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_402 : BitVec 32 := 1#32
  let v576 : BitVec 32 := Scalar.muli v10 c1_i32_402
  let v577 : BitVec 32 := Scalar.addi v575 v576
  v577.toNat
def k0_dev22 (d0 : Dev nD) : Nat :=
  let c0_i32_424 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_423 : BitVec 32 := 4#32
  let v605 : BitVec 32 := Scalar.muli v11 c4_i32_423
  let v606 : BitVec 32 := Scalar.addi c0_i32_424 v605
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_425 : BitVec 32 := 2#32
  let v607 : BitVec 32 := Scalar.muli v5 c2_i32_425
  let v608 : BitVec 32 := Scalar.addi v606 v607
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_426 : BitVec 32 := 1#32
  let v609 : BitVec 32 := Scalar.muli v8 c1_i32_426
  let v610 : BitVec 32 := Scalar.addi v608 v609
  v610.toNat
def k0_dev23 (d0 : Dev nD) : Nat :=
  let c0_i32_450 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_449 : BitVec 32 := 4#32
  let v640 : BitVec 32 := Scalar.muli v2 c4_i32_449
  let v641 : BitVec 32 := Scalar.addi c0_i32_450 v640
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_451 : BitVec 32 := 2#32
  let v642 : BitVec 32 := Scalar.muli v5 c2_i32_451
  let v643 : BitVec 32 := Scalar.addi v641 v642
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_452 : BitVec 32 := 1#32
  let v644 : BitVec 32 := Scalar.muli v10 c1_i32_452
  let v645 : BitVec 32 := Scalar.addi v643 v644
  v645.toNat
def k0_off8 (d0 : Dev nD) (c0_i32_476 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c128_i32_475 : BitVec 32 := 128#32
  let v679 : BitVec 32 := Scalar.muli v23 c128_i32_475
  let v680 : BitVec 32 := Scalar.addi v679 c0_i32_476
  let v681 : Index := Scalar.indexCast v680
  let c0_477 : Index := 0#32
  ![v681.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S4096x512, .f32⟩
  | .hbm, ⟨3, _⟩ => ⟨S512x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Stages.lean ====
/-
  The kernel's body as a sequence of stages.

  A device `c` at mesh position (x, y, z) has three neighbours: the one that differs in y, in z, and in x. Each stage
  below is written once for a chunk `r` of 32 rows, and the body runs every stage for the four chunks in turn:

  * `entry`    — signal the three neighbours' barrier semaphores, wait for three signals on its own;
  * `product` — the local dot product of one chunk of the device's own rows, its rounding to bf16, and the copy of that
    to the y neighbour;
  * `combine`  — wait for the y neighbour's chunk, add, round, and copy the rounded sum to the z and the x neighbour;
  * `relayZ`, `relayX` — wait for the z (x) neighbour's chunk, pass one half of it on to the x (z) neighbour, and widen
    the chunk into the result;
  * `corner`   — wait for the two halves that came the long way round and widen them into the result;
  * `drain`    — wait until the device's own five copies of the chunk have been sent.
-/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Mesh

open Idealize.ShloMosaic Idealize.ShloMosaic.TcCoe
open Idealize.SL.Sem
open Cert.KernelIdeal.Gen

variable {F : FTy → Type} [FloatOps F]

/-! ## The buffers -/

/-- the device's half of the first argument -/
abbrev dyM : Memref sig .tc .vmem S512x2048 .f32 := Memref.whole cc0_stg0_0
/-- the device's half of the second argument -/
abbrev wM : Memref sig .tc .vmem S512x2048 .f32 := Memref.whole cc0_stg1_0
/-- the result -/
abbrev outM : Memref sig .tc .vmem S512x512 .f32 := Memref.whole cc0_stg2_0
/-- the rounded partial products, sent to the y neighbour -/
abbrev ypM : Memref sig .tc .vmem S128x512 .bf16 := Memref.whole cc0_scratch0
/-- the rounded partial products of the y neighbour -/
abbrev yrM : Memref sig .tc .vmem S128x512 .bf16 := Memref.whole cc0_scratch1
/-- the rounded sums of all four blocks -/
abbrev cmM : Memref sig .tc .vmem S512x512 .bf16 := Memref.whole cc0_scratch2

/-- The barrier semaphore. -/
abbrev barS : Sem sig := (SemArray.scalar (sig.barrier 0 rfl) : Sems sig S_).sem

theorem inbS (k : Fin 8) : ∀ a, (![k.val] : Fin 1 → Nat) a + S1.size a ≤ S8.size a := by revert k; decide

/-- Semaphore `k` of an array of eight. -/
abbrev semOf (A : DmaSems sig S8) (k : Fin 8) : DmaSem sig :=
  ((A.slice (Rect.unit (s := S8) ![k.val] S1.size (inbS k))).squeeze S_ squeezes_S1_S_).sem

/-- The semaphore that counts what chunk `r`'s copy has sent; -/
abbrev sendIx (r : Fin 4) : Fin 8 := ⟨2 * r.val, by omega⟩
/-- the semaphore that counts what has arrived of it. -/
abbrev recvIx (r : Fin 4) : Fin 8 := ⟨2 * r.val + 1, by omega⟩

/-! ## Chunks of rows -/

theorem inbY (r : Fin 4) : ∀ a, (![32 * r.val, 0] : Fin 2 → Nat) a + S32x512.size a ≤ S128x512.size a := by revert r; decide
theorem wordsY (r : Fin 4) : (Rect.unit (s := S128x512) ![32 * r.val, 0] S32x512.size (inbY r)).WholeWords (EltTy.packing .bf16) := by revert r; decide
theorem packedY (r : Fin 4) : (Rect.unit (s := S128x512) ![32 * r.val, 0] S32x512.size (inbY r)).PackedRows (EltTy.packing .bf16) := by revert r; decide

/-- Chunk `r` of the 128-row buffers. -/
abbrev yRect (r : Fin 4) : Rect S128x512 := Rect.unit (s := S128x512) ![32 * r.val, 0] S32x512.size (inbY r)

abbrev InB32 (o : Fin 2 → ℕ) : Prop := ∀ a, o a + S32x512.size a ≤ S512x512.size a
abbrev InB16 (o : Fin 2 → ℕ) : Prop := ∀ a, o a + S16x512.size a ≤ S512x512.size a
abbrev InBdy (o : Fin 2 → ℕ) : Prop := ∀ a, o a + S32x2048.size a ≤ S512x2048.size a

/-- 32 rows of a 512-row buffer from offsets `o` on; -/
abbrev rect32 (o : Fin 2 → ℕ) (h : InB32 o) : Rect S512x512 := Rect.unit (s := S512x512) o S32x512.size h
/-- 16 of them; -/
abbrev rect16 (o : Fin 2 → ℕ) (h : InB16 o) : Rect S512x512 := Rect.unit (s := S512x512) o S16x512.size h
/-- 32 rows of the first argument. -/
abbrev rectDy (o : Fin 2 → ℕ) (h : InBdy o) : Rect S512x2048 := Rect.unit (s := S512x2048) o S32x2048.size h
/-- the whole second argument -/
abbrev rectW : Rect S512x2048 := Rect.unit (s := S512x2048) ![0, 0] S512x2048.size inb_S512x2048_S512x2048_0_0

/-- The buffers' chunks as a copy names them. -/
abbrev ypSl (r : Fin 4) : Memref sig .tc .vmem S32x512 .bf16 := ypM.slice (yRect r) (fun _ => rfl)
abbrev yrSl (r : Fin 4) : Memref sig .tc .vmem S32x512 .bf16 := yrM.slice (yRect r) (fun _ => rfl)
abbrev cm32 (o : Fin 2 → ℕ) (h : InB32 o) : Memref sig .tc .vmem S32x512 .bf16 := cmM.slice (rect32 o h) (fun _ => rfl)
abbrev cm16 (o : Fin 2 → ℕ) (h : InB16 o) : Memref sig .tc .vmem S16x512 .bf16 := cmM.slice (rect16 o h) (fun _ => rfl)

/-- A body's program. -/
abbrev BodyProg (F : FTy → Type) (α : Type) := Prog (TpuEff nD τ sig (Elt F) Λ₀ .tc) α

/-! ## The stages -/

/-- Signal the neighbours `py`, `pz`, `px`; wait for three signals. -/
def entry (py pz px : Dev nD) : BodyProg F PUnit := do
  semSignalWord py barS 1#32
  semSignalWord pz barS 1#32
  semSignalWord px barS 1#32
  semWaitWord barS 3#32

/-- Local product of the rows at `o` (of the first argument `o₁`), rounded and copied to `p`. -/
def partial' (p : Dev nD) (r : Fin 4) (o₁ : Fin 2 → ℕ) (h₁ : InBdy o₁) (o : Fin 2 → ℕ) (h : InB32 o) : BodyProg F PUnit := do
  let a : Vec F S32x2048 .f32 ← Prog.lift (.load dyM (rectDy o₁ h₁).toLoadRect (View.loadsAt_vmem h_S32x2048))
  let b : Vec F S512x2048 .f32 ← Prog.lift (.load wM rectW.toLoadRect (View.loadsAt_vmem h_S512x2048))
  let _ : Vec F S32x512 .f32 ← Prog.lift (.load outM (rect32 o h).toLoadRect (View.loadsAt_vmem h_S32x512))
  Prog.lift (.store outM (rect32 o h) (k0_pay1 a b) Finset.univ (View.stores_vmem_bits_univ h_S32x512 rfl) (.inl rfl))
  let v : Vec F S32x512 .f32 ← Prog.lift (.load outM (rect32 o h).toLoadRect (View.loadsAt_vmem h_S32x512))
  let _ : Vec F S32x512 .bf16 ← Prog.lift (.load ypM (yRect r).toLoadRect (View.loadsAt_vmem h_S32x512))
  Prog.lift (.store ypM (yRect r) (k0_pay2 v) Finset.univ
    (View.stores_vmem h_S32x512 ((Memref.isWhole_whole cc0_scratch0).storeExact_slice rfl _ (packedY r)) (fun _ => rfl)) (.inl rfl))
  Prog.lift (.enqueueDma (ypSl r) (.remote (Dev.tc p) (yrSl r) (.dma (semOf cc0_scratch3 (sendIx r)))) (.dma (semOf cc0_scratch3 (recvIx r)))
    ((Memref.isWhole_whole cc0_scratch0).wordExact_slice rfl _ (wordsY r)) ((Memref.isWhole_whole cc0_scratch1).wordExact_slice rfl _ (wordsY r))
    ⟨⟨rfl, Or.inl rfl⟩, trivial⟩)

/-- A copy of 32 rows at `o` to the same rows of device `p`; -/
def push32 (A : DmaSems sig S8) (p : Dev nD) (r : Fin 4) (o : Fin 2 → ℕ) (h : InB32 o)
    (w : (rect32 o h).WholeWords (EltTy.packing .bf16)) : BodyProg F PUnit :=
  Prog.lift (.enqueueDma (cm32 o h) (.remote (Dev.tc p) (cm32 o h) (.dma (semOf A (sendIx r)))) (.dma (semOf A (recvIx r)))
    ((Memref.isWhole_whole cc0_scratch2).wordExact_slice rfl _ w) ((Memref.isWhole_whole cc0_scratch2).wordExact_slice rfl _ w)
    ⟨⟨rfl, Or.inl rfl⟩, trivial⟩)
/-- of 16 rows. -/
def push16 (A : DmaSems sig S8) (p : Dev nD) (r : Fin 4) (o : Fin 2 → ℕ) (h : InB16 o)
    (w : (rect16 o h).WholeWords (EltTy.packing .bf16)) : BodyProg F PUnit :=
  Prog.lift (.enqueueDma (cm16 o h) (.remote (Dev.tc p) (cm16 o h) (.dma (semOf A (sendIx r)))) (.dma (semOf A (recvIx r)))
    ((Memref.isWhole_whole cc0_scratch2).wordExact_slice rfl _ w) ((Memref.isWhole_whole cc0_scratch2).wordExact_slice rfl _ w)
    ⟨⟨rfl, Or.inl rfl⟩, trivial⟩)
/-- A wait on semaphore `k` of `A` for 32 rows of the large buffer; -/
def await32 (A : DmaSems sig S8) (k : Fin 8) (o : Fin 2 → ℕ) (h : InB32 o) (w : (rect32 o h).WholeWords (EltTy.packing .bf16)) : BodyProg F PUnit :=
  Prog.lift (.waitDma2 (semOf A k) (cm32 o h) (cm32 o h)
    ((Memref.isWhole_whole cc0_scratch2).wordExact_slice rfl _ w) ((Memref.isWhole_whole cc0_scratch2).wordExact_slice rfl _ w))
/-- for 16 rows. -/
def await16 (A : DmaSems sig S8) (k : Fin 8) (o : Fin 2 → ℕ) (h : InB16 o) (w : (rect16 o h).WholeWords (EltTy.packing .bf16)) : BodyProg F PUnit :=
  Prog.lift (.waitDma2 (semOf A k) (cm16 o h) (cm16 o h)
    ((Memref.isWhole_whole cc0_scratch2).wordExact_slice rfl _ w) ((Memref.isWhole_whole cc0_scratch2).wordExact_slice rfl _ w))

/-- Wait for the y neighbour's chunk; add it; keep the sum (rows `o` of the result) and its rounding (rows `o` of the
    large buffer). -/
def accumulate (r : Fin 4) (o : Fin 2 → ℕ) (h : InB32 o) (w : (rect32 o h).PackedRows (EltTy.packing .bf16)) : BodyProg F PUnit := do
  Prog.lift (.waitDma2 (semOf cc0_scratch3 (recvIx r)) (ypSl r) (yrSl r)
    ((Memref.isWhole_whole cc0_scratch0).wordExact_slice rfl _ (wordsY r)) ((Memref.isWhole_whole cc0_scratch1).wordExact_slice rfl _ (wordsY r)))
  let u : Vec F S32x512 .f32 ← Prog.lift (.load outM (rect32 o h).toLoadRect (View.loadsAt_vmem h_S32x512))
  let v : Vec F S32x512 .bf16 ← Prog.lift (.load yrM (yRect r).toLoadRect (View.loadsAt_vmem h_S32x512))
  let _ : Vec F S32x512 .f32 ← Prog.lift (.load outM (rect32 o h).toLoadRect (View.loadsAt_vmem h_S32x512))
  Prog.lift (.store outM (rect32 o h) (k0_pay9 u v) Finset.univ (View.stores_vmem_bits_univ h_S32x512 rfl) (.inl rfl))
  let _ : Vec F S32x512 .bf16 ← Prog.lift (.load cmM (rect32 o h).toLoadRect (View.loadsAt_vmem h_S32x512))
  Prog.lift (.store cmM (rect32 o h) (k0_pay10 u v) Finset.univ
    (View.stores_vmem h_S32x512 ((Memref.isWhole_whole cc0_scratch2).storeExact_slice rfl _ w) (fun _ => rfl)) (.inl rfl))

/-- Widen 32 rows of the large buffer into the result. -/
def widen (o : Fin 2 → ℕ) (h : InB32 o) : BodyProg F PUnit := do
  let v : Vec F S32x512 .bf16 ← Prog.lift (.load cmM (rect32 o h).toLoadRect (View.loadsAt_vmem h_S32x512))
  let _ : Vec F S32x512 .f32 ← Prog.lift (.load outM (rect32 o h).toLoadRect (View.loadsAt_vmem h_S32x512))
  Prog.lift (.store outM (rect32 o h) (k0_pay17 v) Finset.univ (View.stores_vmem_bits_univ h_S32x512 rfl) (.inl rfl))

/-- Chunk `r`'s constant word, as the kernel's address computations take it. -/
abbrev wd (r : Fin 4) : BitVec 32 := BitVec.ofNat 32 (32 * r.val)

section Device
variable (c : Dev nD)

/-- The y neighbour's chunk added in; the rounded sum copied to `pz` and `px`. -/
def combine (r : Fin 4) (pz px : Dev nD) : BodyProg F PUnit := do
  accumulate r (k0_off2 c (wd r)) (k0_off2_inb c r) (k0_off2_packedbf16 c r)
  push32 cc0_scratch4 pz r (k0_off3 c (wd r)) (k0_off3_inb c r) (k0_off3_wordsbf16 c r)
  push32 cc0_scratch5 px r (k0_off3 c (wd r)) (k0_off3_inb c r) (k0_off3_wordsbf16 c r)

/-- The z neighbour's chunk: its first half passed on to `px`, all of it widened. -/
def relayZ (r : Fin 4) (px : Dev nD) : BodyProg F PUnit := do
  await32 cc0_scratch4 (recvIx r) (k0_off3 c (wd r)) (k0_off3_inb c r) (k0_off3_wordsbf16 c r)
  push16 cc0_scratch6 px r (k0_off4 c (wd r)) (k0_off4_inb c r) (k0_off4_wordsbf16 c r)
  widen (k0_off5 c (wd r)) (k0_off5_inb c r)

/-- The x neighbour's chunk: its second half passed on to `pz`, all of it widened. -/
def relayX (r : Fin 4) (pz : Dev nD) : BodyProg F PUnit := do
  await32 cc0_scratch5 (recvIx r) (k0_off3 c (wd r)) (k0_off3_inb c r) (k0_off3_wordsbf16 c r)
  push16 cc0_scratch7 pz r (k0_off6 c (wd r)) (k0_off6_inb c r) (k0_off6_wordsbf16 c r)
  widen (k0_off7 c (wd r)) (k0_off7_inb c r)

/-- The two halves that came the long way round. -/
def corner (r : Fin 4) : BodyProg F PUnit := do
  await16 cc0_scratch6 (recvIx r) (k0_off4 c (wd r)) (k0_off4_inb c r) (k0_off4_wordsbf16 c r)
  await16 cc0_scratch7 (recvIx r) (k0_off6 c (wd r)) (k0_off6_inb c r) (k0_off6_wordsbf16 c r)
  widen (k0_off8 c (wd r)) (k0_off8_inb c r)

/-- The device's own five copies of the chunk have been sent. -/
def drain (r : Fin 4) : BodyProg F PUnit := do
  Prog.lift (.waitDma2 (semOf cc0_scratch3 (sendIx r)) (yrSl r) (ypSl r)
    ((Memref.isWhole_whole cc0_scratch1).wordExact_slice rfl _ (wordsY r)) ((Memref.isWhole_whole cc0_scratch0).wordExact_slice rfl _ (wordsY r)))
  await32 cc0_scratch4 (sendIx r) (k0_off3 c (wd r)) (k0_off3_inb c r) (k0_off3_wordsbf16 c r)
  await32 cc0_scratch5 (sendIx r) (k0_off3 c (wd r)) (k0_off3_inb c r) (k0_off3_wordsbf16 c r)
  await16 cc0_scratch6 (sendIx r) (k0_off4 c (wd r)) (k0_off4_inb c r) (k0_off4_wordsbf16 c r)
  await16 cc0_scratch7 (sendIx r) (k0_off6 c (wd r)) (k0_off6_inb c r) (k0_off6_wordsbf16 c r)

/-- The chunk's local product, copied to `py`. -/
def product (r : Fin 4) (py : Dev nD) : BodyProg F PUnit :=
  partial' py r (k0_off1 c (wd r)) (k0_off1_inb c r) (k0_off2 c (wd r)) (k0_off2_inb c r)

/-- The body once the device id is read. -/
def stages : BodyProg F PUnit := do
  entry ⟨k0_dev1 c, k0_dev1_lt c⟩ ⟨k0_dev2 c, k0_dev2_lt c⟩ ⟨k0_dev3 c, k0_dev3_lt c⟩
  product c 0 ⟨k0_dev4 c, k0_dev4_lt c⟩
  product c 1 ⟨k0_dev5 c, k0_dev5_lt c⟩
  product c 2 ⟨k0_dev6 c, k0_dev6_lt c⟩
  product c 3 ⟨k0_dev7 c, k0_dev7_lt c⟩
  combine c 0 ⟨k0_dev8 c, k0_dev8_lt c⟩ ⟨k0_dev9 c, k0_dev9_lt c⟩
  combine c 1 ⟨k0_dev10 c, k0_dev10_lt c⟩ ⟨k0_dev11 c, k0_dev11_lt c⟩
  combine c 2 ⟨k0_dev12 c, k0_dev12_lt c⟩ ⟨k0_dev13 c, k0_dev13_lt c⟩
  combine c 3 ⟨k0_dev14 c, k0_dev14_lt c⟩ ⟨k0_dev15 c, k0_dev15_lt c⟩
  relayZ c 0 ⟨k0_dev16 c, k0_dev16_lt c⟩
  relayX c 0 ⟨k0_dev17 c, k0_dev17_lt c⟩
  relayZ c 1 ⟨k0_dev18 c, k0_dev18_lt c⟩
  relayX c 1 ⟨k0_dev19 c, k0_dev19_lt c⟩
  relayZ c 2 ⟨k0_dev20 c, k0_dev20_lt c⟩
  relayX c 2 ⟨k0_dev21 c, k0_dev21_lt c⟩
  relayZ c 3 ⟨k0_dev22 c, k0_dev22_lt c⟩
  relayX c 3 ⟨k0_dev23 c, k0_dev23_lt c⟩
  corner c 0
  corner c 1
  corner c 2
  corner c 3
  drain c 0
  drain c 1
  drain c 2
  drain c 3
  pure ⟨⟩

end Device

set_option maxRecDepth 65536 in
set_option maxHeartbeats 4000000 in
/-- The kernel's body on its buffers is its device id read, then the stages. -/
theorem body_eq :
    (cc0_body dyM (Memref.isWhole_whole _) wM (Memref.isWhole_whole _) outM (Memref.isWhole_whole _) ypM (Memref.isWhole_whole _)
        yrM (Memref.isWhole_whole _) cmM (Memref.isWhole_whole _) cc0_scratch3 cc0_scratch4 cc0_scratch5 cc0_scratch6 cc0_scratch7 : BodyProg F PUnit)
      = .op .deviceId fun c => stages c := by
  chain_rfl

end Cert.KernelIdeal.Mesh

end
-- ==== Proof.KernelIdeal.Contents.lean ====
/-
  The mesh, the rows each device is responsible for, and what every buffer holds once it is filled.

  The result's 512 rows are four blocks of 128 rows, one per position (x, z); the two devices at that position (they
  differ in y) work on it together. Each block is four chunks of 32 rows.
-/
module

public import proofs.«01_k».proof.Proof.KernelIdeal.Stages

@[expose] public section

noncomputable section

namespace Cert.KernelIdeal.Mesh

open Idealize.ShloMosaic Idealize.ShloMosaic.TcCoe
open Idealize.SL.Sem
open Cert.KernelIdeal.Gen

variable {F : FTy → Type} [FloatOps F]

/-! ## Neighbours -/

/-- A device's coordinates. -/
abbrev cx (c : Dev nD) : ℕ := c.val / 4
abbrev cy (c : Dev nD) : ℕ := c.val / 2 % 2
abbrev cz (c : Dev nD) : ℕ := c.val % 2

/-- The neighbour that differs in y; -/
def yp (c : Dev nD) : Dev nD := ⟨(4 * cx c + cz c + 2) - 2 * cy c, by revert c; decide⟩
/-- in z; -/
def zp (c : Dev nD) : Dev nD := ⟨(4 * cx c + 2 * cy c + 1) - cz c, by revert c; decide⟩
/-- in x; -/
def xp (c : Dev nD) : Dev nD := ⟨(2 * cy c + cz c + 4) - 4 * cx c, by revert c; decide⟩
/-- the one that differs in x and z. -/
def dg (c : Dev nD) : Dev nD := xp (zp c)

theorem yp_yp (c : Dev nD) : yp (yp c) = c := by revert c; decide
theorem zp_zp (c : Dev nD) : zp (zp c) = c := by revert c; decide
theorem xp_xp (c : Dev nD) : xp (xp c) = c := by revert c; decide
theorem dg_xp (c : Dev nD) : dg (xp c) = zp c := by revert c; decide
theorem dg_zp (c : Dev nD) : dg (zp c) = xp c := by revert c; decide

/-! ## Rows -/

/-- The block a device's position stands for. -/
abbrev blockOf (c : Dev nD) : ℕ := 2 * cx c + cz c

/-- Where chunk `r` of device `d`'s block begins; -/
def off32 (d : Dev nD) (r : Fin 4) : Fin 2 → ℕ := ![256 * cx d + 128 * cz d + 32 * r.val, 0]
/-- where its half `h` does. -/
def off16 (d : Dev nD) (r : Fin 4) (h : Fin 2) : Fin 2 → ℕ := ![256 * cx d + 128 * cz d + 32 * r.val + 16 * h.val, 0]

theorem off32_inb (d : Dev nD) (r : Fin 4) : InB32 (off32 d r) := by revert d r; decide
theorem off16_inb (d : Dev nD) (r : Fin 4) (h : Fin 2) : InB16 (off16 d r h) := by revert d r h; decide
theorem offDy_inb (d : Dev nD) (r : Fin 4) : InBdy (off32 d r) := by revert d r; decide

theorem off1_eq (c : Dev nD) (r : Fin 4) : k0_off1 c (wd r) = off32 c r := k0_off1_eq c r
theorem off2_eq (c : Dev nD) (r : Fin 4) : k0_off2 c (wd r) = off32 c r := k0_off2_eq c r
theorem off3_eq (c : Dev nD) (r : Fin 4) : k0_off3 c (wd r) = off32 c r := k0_off3_eq c r
theorem off4_eq (c : Dev nD) (r : Fin 4) : k0_off4 c (wd r) = off16 (zp c) r 0 := (k0_off4_eq c r).trans (by revert c r; decide)
theorem off5_eq (c : Dev nD) (r : Fin 4) : k0_off5 c (wd r) = off32 (zp c) r := (k0_off5_eq c r).trans (by revert c r; decide)
theorem off6_eq (c : Dev nD) (r : Fin 4) : k0_off6 c (wd r) = off16 (xp c) r 1 := (k0_off6_eq c r).trans (by revert c r; decide)
theorem off7_eq (c : Dev nD) (r : Fin 4) : k0_off7 c (wd r) = off32 (xp c) r := (k0_off7_eq c r).trans (by revert c r; decide)
theorem off8_eq (c : Dev nD) (r : Fin 4) : k0_off8 c (wd r) = off32 (dg c) r := (k0_off8_eq c r).trans (by revert c r; decide)

/-- Rows of the large buffer: chunk `r` of device `d`'s block; -/
abbrev rowsM (d : Dev nD) (r : Fin 4) : Memref sig .tc .vmem S32x512 .bf16 := cm32 (off32 d r) (off32_inb d r)
/-- half `h` of it; -/
abbrev halfM (d : Dev nD) (r : Fin 4) (h : Fin 2) : Memref sig .tc .vmem S16x512 .bf16 := cm16 (off16 d r h) (off16_inb d r h)
/-- the chunk's rows of the result. -/
abbrev outSl (d : Dev nD) (r : Fin 4) : Memref sig .tc .vmem S32x512 .f32 := outM.slice (rect32 (off32 d r) (off32_inb d r)) (fun _ => rfl)

/-! ## Contents glued of chunks -/

/-- Row `a`, column `b` of a buffer whose 32-row chunks are `p 0`, `p 1`, …. -/
def glueAt {e : EltTy} (p : ℕ → Vec F S32x512 e) (a b : ℕ) (hb : b < 512) : Elt F e :=
  p (a / 32) (fun | 0 => ⟨a % 32, Nat.mod_lt _ (by decide)⟩ | 1 => ⟨b, hb⟩)
def glue128 {e : EltTy} (p : ℕ → Vec F S32x512 e) : Vec F S128x512 e := fun i => glueAt p (i 0).val (i 1).val (i 1).isLt
def glue512 {e : EltTy} (p : ℕ → Vec F S32x512 e) : Vec F S512x512 e := fun i => glueAt p (i 0).val (i 1).val (i 1).isLt

theorem glueAt_chunk {e : EltTy} (p : ℕ → Vec F S32x512 e) (k : ℕ) (x : S32x512.Idx) {a b : ℕ} (hb : b < 512)
    (h0 : a = 32 * k + (x 0).val) (h1 : b = (x 1).val) : glueAt p a b hb = p k x := by
  have hx0 : (x 0).val < 32 := (x 0).isLt
  subst h1
  have hk : a / 32 = k := by omega
  have hm : a % 32 = (x 0).val := by omega
  unfold glueAt
  rw [hk]
  congr 1
  funext a
  match a with
  | 0 => exact Fin.ext hm
  | 1 => rfl

/-- Reading a chunk of glued contents. -/
theorem read_glue128 (p : ℕ → Vec F S32x512 .bf16) (r : Fin 4) : (ypSl r).view.read (Elt F) (glue128 p) = p r.val := by
  funext x
  refine glueAt_chunk p r.val x _ ?_ ?_
  · show 32 * r.val + 1 * (x 0).val = _; omega
  · show 0 + 1 * (x 1).val = _; omega
theorem read_glue512 (p : ℕ → Vec F S32x512 .bf16) (d : Dev nD) (r : Fin 4) :
    (rowsM d r).view.read (Elt F) (glue512 p) = p (4 * blockOf d + r.val) := by
  funext x
  refine glueAt_chunk p _ x _ ?_ ?_
  · show (256 * cx d + 128 * cz d + 32 * r.val) + 1 * (x 0).val = _; unfold blockOf; omega
  · show 0 + 1 * (x 1).val = _; omega
theorem read_glueOut (p : ℕ → Vec F S32x512 .f32) (d : Dev nD) (r : Fin 4) :
    (outSl d r).view.read (Elt F) (glue512 p) = p (4 * blockOf d + r.val) := by
  funext x
  refine glueAt_chunk p _ x _ ?_ ?_
  · show (256 * cx d + 128 * cz d + 32 * r.val) + 1 * (x 0).val = _; unfold blockOf; omega
  · show 0 + 1 * (x 1).val = _; omega

/-! ## What is computed -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s halves of the two arguments. -/
def dyG (c : Dev nD) : (cc0_stg0_0 : Ref sig .tc).ty.Contents (Elt F) :=
  (win0_0.blk (0 : Fin 1)).view.read (Elt F) ((s₀ m ρ).mem ((c : Thread nD τ).loc main_arg0))
def wG (c : Dev nD) : (cc0_stg1_0 : Ref sig .tc).ty.Contents (Elt F) :=
  (win0_1.blk (0 : Fin 1)).view.read (Elt F) ((s₀ m ρ).mem ((c : Thread nD τ).loc main_arg1))

/-- Chunk `r` of device `c`'s own block: the product over its half of the contracted axis; -/
def prod (c : Dev nD) (r : Fin 4) : Vec F S32x512 .f32 :=
  k0_pay1 (dyM.view.readAt (Elt F) (rectDy (off32 c r) (offDy_inb c r)).toLoadRect (dyG m ρ c)) (wM.view.readAt (Elt F) rectW.toLoadRect (wG m ρ c))
/-- that rounded; -/
def part (c : Dev nD) (r : Fin 4) : Vec F S32x512 .bf16 := k0_pay2 (prod m ρ c r)
/-- the sum over both halves; -/
def total (c : Dev nD) (r : Fin 4) : Vec F S32x512 .f32 := k0_pay9 (prod m ρ c r) (part m ρ (yp c) r)
/-- that rounded; -/
def rounded (c : Dev nD) (r : Fin 4) : Vec F S32x512 .bf16 := k0_pay10 (prod m ρ c r) (part m ρ (yp c) r)
/-- and widened again. -/
def widened (c : Dev nD) (r : Fin 4) : Vec F S32x512 .f32 := k0_pay17 (rounded m ρ c r)

/-- The device with `c`'s y at the position of block `b`. -/
def mate (c : Dev nD) (b : ℕ) : Dev nD := at' (cy c)
where at' (y : ℕ) : Dev nD := ⟨(4 * (b / 2 % 2) + 2 * y + b % 2) % 8, Nat.mod_lt _ (by decide)⟩

theorem mate_self (c : Dev nD) : mate c (blockOf c) = c := by revert c; decide
theorem mate_zp (c : Dev nD) : mate (zp c) = mate c := by funext b; exact congrArg (mate.at' b) (show cy (zp c) = cy c from by revert c; decide)
theorem mate_xp (c : Dev nD) : mate (xp c) = mate c := by funext b; exact congrArg (mate.at' b) (show cy (xp c) = cy c from by revert c; decide)
theorem mate_zp' (c : Dev nD) : mate c (blockOf (zp c)) = zp c := by rw [← mate_zp, mate_self]
theorem mate_xp' (c : Dev nD) : mate c (blockOf (xp c)) = xp c := by rw [← mate_xp, mate_self]
theorem mate_dg' (c : Dev nD) : mate c (blockOf (dg c)) = dg c := by unfold dg; rw [← mate_zp, ← mate_xp, mate_self]

/-- Chunk number `k % 4`. -/
abbrev chunk (k : ℕ) : Fin 4 := ⟨k % 4, Nat.mod_lt _ (by decide)⟩
theorem chunk_add (b : ℕ) (r : Fin 4) : chunk (4 * b + r.val) = r := Fin.ext (by show (4 * b + r.val) % 4 = _; omega)
theorem chunk_val (r : Fin 4) : chunk r.val = r := Fin.ext (by show r.val % 4 = _; omega)
theorem block_add (b : ℕ) (r : Fin 4) : (4 * b + r.val) / 4 = b := by omega

/-- The rounded partial products of a device (its own block, over its own half); -/
def partG (c : Dev nD) : Vec F S128x512 .bf16 := glue128 fun k => part m ρ c (chunk k)
/-- the rounded sums of all blocks, as the devices with `c`'s y have them; -/
def sumsG (c : Dev nD) : Vec F S512x512 .bf16 := glue512 fun k => rounded m ρ (mate c (k / 4)) (chunk k)
/-- the result: the device's own block unrounded, the other blocks rounded and widened. -/
def outG (c : Dev nD) : Vec F S512x512 .f32 :=
  glue512 fun k => if k / 4 = blockOf c then total m ρ c (chunk k) else widened m ρ (mate c (k / 4)) (chunk k)

theorem sumsG_zp (c : Dev nD) : sumsG m ρ (zp c) = sumsG m ρ c := by unfold sumsG; rw [mate_zp]
theorem sumsG_xp (c : Dev nD) : sumsG m ρ (xp c) = sumsG m ρ c := by unfold sumsG; rw [mate_xp]

theorem read_partG (c : Dev nD) (r : Fin 4) : (ypSl r).view.read (Elt F) (partG m ρ c) = part m ρ c r := by
  unfold partG; rw [read_glue128, chunk_val]
theorem read_partG' (c : Dev nD) (r : Fin 4) : (yrSl r).view.read (Elt F) (partG m ρ c) = part m ρ c r := read_partG m ρ c r

theorem read_sumsG (c d : Dev nD) (r : Fin 4) : (rowsM d r).view.read (Elt F) (sumsG m ρ c) = rounded m ρ (mate c (blockOf d)) r := by
  unfold sumsG; rw [read_glue512, chunk_add, block_add]
theorem read_outG_own (c : Dev nD) (r : Fin 4) : (outSl c r).view.read (Elt F) (outG m ρ c) = total m ρ c r := by
  unfold outG; rw [read_glueOut, chunk_add, block_add, if_pos rfl]
theorem read_outG_other (c d : Dev nD) (h : blockOf d ≠ blockOf c) (r : Fin 4) :
    (outSl d r).view.read (Elt F) (outG m ρ c) = widened m ρ (mate c (blockOf d)) r := by
  unfold outG; rw [read_glueOut, chunk_add, block_add, if_neg h]

theorem block_zp (c : Dev nD) : blockOf (zp c) ≠ blockOf c := by revert c; decide
theorem block_xp (c : Dev nD) : blockOf (xp c) ≠ blockOf c := by revert c; decide
theorem block_dg (c : Dev nD) : blockOf (dg c) ≠ blockOf c := by revert c; decide

/-- Writing what a view reads of `g` leaves `g` on the view's elements. -/
theorem write_read_on {sp : Space} {s : Shape} {e : EltTy} (v : View sig .tc sp s e) (f g : v.ty.Contents (Elt F)) :
    ∀ i ∈ v.set, v.write (Elt F) f (v.read (Elt F) g) Finset.univ i = g i := by
  intro i hi
  rw [View.write_read_eq_piecewise, View.setOn_univ, Finset.piecewise_eq_of_mem _ _ _ hi]

end Cert.KernelIdeal.Mesh

end
-- ==== Proof.KernelIdeal.Protocol.lean ====
/-
  The protocol: who pays whom on which semaphore, and what comes with it.

  Each device has 41 cells: its barrier semaphore, and for five kinds of copies (to the y neighbour, to the z neighbour,
  to the x neighbour, and the two relays) and four chunks each a cell counting what was sent and a cell counting what has
  arrived. Every cell has one round.

  * The barrier's round has three duties of one unit, one per neighbour. Each brings with it the rows of that neighbour's
    memory into which the device will copy: they are the neighbour's until it signals.
  * An arrival cell's round has one duty, paid by the copy that lands; it brings the rows written, with what they hold.
  * A sending cell's round has one duty, paid by the device's own copy; it brings back the share of the rows it read.

  Copies of chunks that are read meanwhile (a device's own sum goes to two neighbours; a relayed half is also widened)
  take half shares. A device waits for arrivals in the order barrier, y, z and x, relays: the levels say so.
-/
module

public import proofs.«01_k».proof.Proof.KernelIdeal.Contents
public import Idealize.ShloMosaic.Lib.Pipeline.Launch
public import Idealize.ShloMosaic.Lib.Pipeline.Kit
public import Idealize.ShloMosaic.Lib.Tactic

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

/-- The rounds' ghost state, its duties numbered by `Fin 3`; beside it the staging copies'. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Cells -/

/-- A device's cells: its barrier, or the kind of copy, the chunk, and whether it counts arrivals. -/
abbrev CellIx : Type := Option (Fin 5 × Fin 4 × Bool)

/-- The five kinds of copies: to y, z, x, a z chunk relayed to x, an x chunk relayed to z. -/
def semArr : Fin 5 → DmaSems sig S8
  | 0 => cc0_scratch3 | 1 => cc0_scratch4 | 2 => cc0_scratch5 | 3 => cc0_scratch6 | 4 => cc0_scratch7

/-- The semaphore of a sending (`false`) or arrival (`true`) cell; -/
abbrev xsem (k : Fin 5 × Fin 4 × Bool) : SemLoc sig :=
  .dma (semOf (semArr k.1) (if k.2.2 then recvIx k.2.1 else sendIx k.2.1))
/-- of any cell. -/
def csem : CellIx → SemLoc sig
  | none => .reg barS
  | some k => xsem k

/-- Device `c`'s cell. -/
abbrev cell (c : Dev nD) (k : CellIx) : GSem nD τ sig := ((c : Thread nD τ), csem k)
abbrev barC (c : Dev nD) : GSem nD τ sig := cell c none
abbrev sendC (a : Fin 5) (r : Fin 4) (c : Dev nD) : GSem nD τ sig := cell c (some (a, r, false))
abbrev recvC (a : Fin 5) (r : Fin 4) (c : Dev nD) : GSem nD τ sig := cell c (some (a, r, true))

theorem xsem_injective : Function.Injective xsem := by
  have h : ∀ k k' : Fin 5 × Fin 4 × Bool, xsem k = xsem k' → k = k' := by decide +kernel
  exact fun k k' => h k k'
theorem csem_injective : Function.Injective csem := by
  intro k k' h
  match k, k' with
  | none, none => rfl
  | none, some _ => cases h
  | some _, none => cases h
  | some k, some k' => exact congrArg some (xsem_injective h)

/-- The cell a semaphore is, if any. -/
def cellIx (s : SemLoc sig) : Option CellIx := if h : ∃ k, csem k = s then some h.choose else none
theorem cellIx_csem (k : CellIx) : cellIx (csem k) = some k := by
  have h : ∃ k', csem k' = csem k := ⟨k, rfl⟩
  unfold cellIx; rw [dif_pos h]; exact congrArg some (csem_injective h.choose_spec)

/-- Who is at the other end: the device a copy of kind `a` goes to. -/
def peer : Fin 5 → Dev nD → Dev nD
  | 0, c => yp c | 1, c => zp c | 2, c => xp c | 3, c => xp c | 4, c => zp c
theorem peer_peer (a : Fin 5) (c : Dev nD) : peer a (peer a c) = c := by revert a c; decide
/-- The neighbour that pays barrier duty `d`. -/
def nbr : Fin 3 → Dev nD → Dev nD
  | 0, c => yp c | 1, c => zp c | 2, c => xp c
theorem nbr_nbr (d : Fin 3) (c : Dev nD) : nbr d (nbr d c) = c := by revert d c; decide

/-- What a copy of kind `a` credits its two cells with. -/
def amt : Fin 5 → ℕ
  | 0 => (yrSl 0).view.dmaCredit | 1 => (rowsM 0 0).view.dmaCredit | 2 => (rowsM 0 0).view.dmaCredit
  | 3 => (halfM 0 0 0).view.dmaCredit | 4 => (halfM 0 0 0).view.dmaCredit
theorem amt_pos (a : Fin 5) : 0 < amt a := by
  match a with
  | 0 => exact View.dmaCredit_pos _ (by decide)
  | 1 => exact View.dmaCredit_pos _ (by decide)
  | 2 => exact View.dmaCredit_pos _ (by decide)
  | 3 => exact View.dmaCredit_pos _ (by decide)
  | 4 => exact View.dmaCredit_pos _ (by decide)

/-! ## Payloads -/

/-- A view's elements on device `c`, at share `q` and contents `f`. -/
abbrev held (c : Dev nD) {s : Shape} {e : EltTy} (M : Memref sig .tc .vmem s e) (q : PosShare TreeShare)
    (f : Buf (Elt F) (M.view.loc (c : Thread nD τ))) : sProp 𝕄 := M.view.loc (c : Thread nD τ) ↦[M.view.set]{q} f
/-- At some contents. -/
abbrev free (c : Dev nD) {s : Shape} {e : EltTy} (M : Memref sig .tc .vmem s e) : sProp 𝕄 :=
  iprop(∃ f, held (F := F) c M fullShare f)

variable (m : (ℓ : Loc nD τ sig) → Buf (Elt F) ℓ) (ρ : Dev nD → PrngReg)

/-- What arrives on `c`. -/
def arrived (c : Dev nD) (r : Fin 4) : Fin 5 → sProp 𝕄
  | 0 => held c (yrSl r) fullShare (partG m ρ (yp c))
  | 1 => held c (rowsM (zp c) r) fullShare (sumsG m ρ c)
  | 2 => held c (rowsM (xp c) r) fullShare (sumsG m ρ c)
  | 3 => held c (halfM (dg c) r 0) fullShare (sumsG m ρ c)
  | 4 => held c (halfM (dg c) r 1) fullShare (sumsG m ρ c)
/-- What a copy of `c`'s read. -/
def sent (c : Dev nD) (r : Fin 4) : Fin 5 → sProp 𝕄
  | 0 => held c (ypSl r) fullShare (partG m ρ c)
  | 1 => held c (rowsM c r) fullShare.left (sumsG m ρ c)
  | 2 => held c (rowsM c r) fullShare.right (sumsG m ρ c)
  | 3 => held c (halfM (zp c) r 0) fullShare.left (sumsG m ρ c)
  | 4 => held c (halfM (xp c) r 1) fullShare.left (sumsG m ρ c)
/-- The rows of the neighbours' memory into which `c` copies chunk `r`. -/
def target (c : Dev nD) (r : Fin 4) : Fin 5 → sProp 𝕄
  | 0 => free (F := F) (yp c) (yrSl r)
  | 1 => free (F := F) (zp c) (rowsM c r)
  | 2 => free (F := F) (xp c) (rowsM c r)
  | 3 => free (F := F) (xp c) (halfM (zp c) r 0)
  | 4 => free (F := F) (zp c) (halfM (xp c) r 1)
/-- What the neighbour of duty `d` hands `c` with its signal. -/
def handed (c : Dev nD) : Fin 3 → sProp 𝕄
  | 0 => bigSep Finset.univ fun r : Fin 4 => target (F := F) c r 0
  | 1 => bigSep Finset.univ fun r : Fin 4 => iprop(target (F := F) c r 1 ∗ target (F := F) c r 4)
  | 2 => bigSep Finset.univ fun r : Fin 4 => iprop(target (F := F) c r 2 ∗ target (F := F) c r 3)

/-- A cell's payload on device `c`. -/
def payOf (c : Dev nD) : CellIx → Fin 3 → sProp 𝕄
  | none, d => handed (F := F) c d
  | some (a, r, true), _ => arrived m ρ c r a
  | some (a, r, false), _ => sent m ρ c r a

instance arrived_storable (c : Dev nD) (r : Fin 4) (a : Fin 5) : BI.Storable (upEmb : UEmb _ 𝕄) (arrived m ρ c r a) := by
  fin_cases a <;> (simp only [arrived]; infer_instance)
instance sent_storable (c : Dev nD) (r : Fin 4) (a : Fin 5) : BI.Storable (upEmb : UEmb _ 𝕄) (sent m ρ c r a) := by
  fin_cases a <;> (simp only [sent]; infer_instance)
instance target_storable (c : Dev nD) (r : Fin 4) (a : Fin 5) : BI.Storable (upEmb : UEmb _ 𝕄) (target (F := F) c r a) := by
  fin_cases a <;> (simp only [target]; infer_instance)
instance handed_storable (c : Dev nD) (d : Fin 3) : BI.Storable (upEmb : UEmb _ 𝕄) (handed (F := F) c d) := by
  fin_cases d <;> (simp only [handed]; infer_instance)
instance payOf_storable (c : Dev nD) (k : CellIx) (d : Fin 3) : BI.Storable (upEmb : UEmb _ 𝕄) (payOf m ρ c k d) := by
  match k with
  | none => exact handed_storable c d
  | some (a, r, true) => exact arrived_storable m ρ c r a
  | some (a, r, false) => exact sent_storable m ρ c r a

/-! ## The schedule -/

def dutiesOf : CellIx → Finset (Fin 3)
  | none => Finset.univ
  | some _ => {0}
def amountOf : CellIx → ℕ
  | none => 1
  | some k => amt k.1

/-- One round per cell. -/
def sched : Rounds.Schedule (GSem nD τ sig) (Fin 3) 𝕄 where
  duties g r := if r = 0 ∧ g.1.2 = .tc then (cellIx g.2).elim ∅ dutiesOf else ∅
  unitless _ := False
  amount g _ _ := (cellIx g.2).elim 1 amountOf
  payload g _ d := (cellIx g.2).elim iprop(emp) fun k => payOf m ρ g.1.1 k d
  amount_pos g _ _ _ := by
    cases cellIx g.2 with
    | none => exact Nat.one_pos
    | some k =>
      cases k with
      | none => exact Nat.one_pos
      | some k => exact amt_pos k.1

instance sched_storable (g : GSem nD τ sig) (r : ℕ) (d : Fin 3) : BI.Storable (upEmb : UEmb _ 𝕄) ((sched (F := F) m ρ).payload g r d) := by
  show BI.Storable upEmb ((cellIx g.2).elim iprop(emp) fun k => payOf m ρ g.1.1 k d)
  cases cellIx g.2 with
  | none => exact inferInstanceAs (BI.Storable upEmb iprop(emp))
  | some k => exact payOf_storable m ρ _ k d

theorem duties_cell (c : Dev nD) (k : CellIx) : (sched (F := F) m ρ).duties (cell c k) 0 = dutiesOf k := by
  show (if (0 : ℕ) = 0 ∧ (cell c k).1.2 = .tc then (cellIx (csem k)).elim ∅ dutiesOf else ∅) = _
  rw [if_pos ⟨rfl, rfl⟩, cellIx_csem]; rfl
theorem duties_later (g : GSem nD τ sig) (r : ℕ) (h : 1 ≤ r) : (sched (F := F) m ρ).duties g r = ∅ :=
  if_neg fun h' => by omega
theorem amount_cell (c : Dev nD) (k : CellIx) (d : Fin 3) : (sched (F := F) m ρ).amount (cell c k) 0 d = amountOf k := by
  show (cellIx (csem k)).elim 1 amountOf = _
  rw [cellIx_csem]; rfl
theorem payload_cell (c : Dev nD) (k : CellIx) (d : Fin 3) : (sched (F := F) m ρ).payload (cell c k) 0 d = payOf m ρ c k d := by
  show ((cellIx (csem k)).elim iprop(emp) fun k => payOf m ρ c k d) = _
  rw [cellIx_csem]; rfl

theorem expect_bar (c : Dev nD) : (sched (F := F) m ρ).expect (barC c) 0 = 3 := by
  unfold Schedule.expect Schedule.amountOf
  rw [duties_cell, Finset.sum_congr rfl fun d _ => amount_cell m ρ c none d]; rfl
theorem expect_xfer (c : Dev nD) (k : Fin 5 × Fin 4 × Bool) : (sched (F := F) m ρ).expect (cell c (some k)) 0 = amt k.1 := by
  unfold Schedule.expect Schedule.amountOf
  rw [duties_cell, Finset.sum_congr rfl fun d _ => amount_cell m ρ c (some k) d]; exact Finset.sum_singleton _ _

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_two (Φ : Bool → sProp 𝕄) : bigSep Finset.univ Φ = iprop(Φ false ∗ Φ true) :=
  bigSep_univ_eq_bigSepL [false, true] (by decide) (by decide) Φ

/-- The whole round's payloads of a barrier; -/
theorem rest_bar (c : Dev nD) :
    bigSep ((sched (F := F) m ρ).duties (barC c) 0 \ ∅) (fun d => (sched (F := F) m ρ).payload (barC c) 0 d)
      = iprop(handed (F := F) c 0 ∗ handed (F := F) c 1 ∗ handed (F := F) c 2) := by
  rw [Finset.sdiff_empty, duties_cell]
  refine (bigSep_three _).trans ?_
  rw [payload_cell, payload_cell, payload_cell]; rfl
/-- of a copy's cell. -/
theorem rest_xfer (c : Dev nD) (k : Fin 5 × Fin 4 × Bool) :
    bigSep ((sched (F := F) m ρ).duties (cell c (some k)) 0 \ ∅) (fun d => (sched (F := F) m ρ).payload (cell c (some k)) 0 d)
      = payOf m ρ c (some k) 0 := by
  rw [Finset.sdiff_empty, duties_cell]
  exact bigSep_singleton.trans (payload_cell m ρ c (some k) 0)

/-! ## Levels, and what a device owes -/

/-- The labels in use. -/
def L (g : GSem nD τ sig) : Finset Unit := if g.1.2 = .tc then {()} else ∅
theorem L_of_ne (g : GSem nD τ sig) (h : g.1.2 ≠ .tc) : L g = ∅ := if_neg h

/-- A cell's level: barriers below the y arrivals, these below the z and x arrivals, these below the relays; the sending
    cells (and everything else) at the bottom. -/
def levelOf : CellIx → ℕ
  | none => 1
  | some (_, _, false) => 0
  | some (0, _, true) => 2
  | some (1, _, true) => 3
  | some (2, _, true) => 3
  | some (_, _, true) => 4
def lv (g : GSem nD τ sig) (_ : Unit) : ℕ := (cellIx g.2).elim 0 levelOf
theorem lv_cell (c : Dev nD) (k : CellIx) (u : Unit) : lv (cell c k) u = levelOf k := by
  show (cellIx (csem k)).elim 0 levelOf = _
  rw [cellIx_csem]; rfl

/-- A payment due: to which device's cell. -/
abbrev Due : Type := Dev nD × CellIx
/-- The tallies of a list of payments due, the first of them the last summand. -/
def tallies : List Due → CellTallies nD τ sig Unit
  | [] => 0
  | p :: l => tallies l + tallyAt (cell p.1 p.2) () (amountOf p.2)

theorem tallies_pos {l : List Due} {g : GSem nD τ sig} {u : Unit} (h : 0 < tallies l g u) : ∃ p ∈ l, g = cell p.1 p.2 := by
  induction l with
  | nil => exact absurd h (Nat.lt_irrefl 0)
  | cons p l ih =>
    unfold tallies at h
    rw [Pi.add_apply, Finsupp.add_apply, tallyAt_apply] at h
    by_cases hp : g = cell p.1 p.2 ∧ u = ()
    · exact ⟨p, List.mem_cons_self, hp.1⟩
    · rw [if_neg hp, Nat.add_zero] at h
      obtain ⟨q, hq, e⟩ := ih h
      exact ⟨q, List.mem_cons_of_mem _ hq, e⟩

/-- A wait on a semaphore below everything still due. -/
theorem mayWait_of_level (c : Dev nD) (s : SemLoc sig) (n : ℕ) (hs : (cellIx s).elim 0 levelOf ≤ n) (l : List Due)
    (hl : ∀ p ∈ l, n < levelOf p.2) :
    (levAts L lv : sProp 𝕄) ⊢ MayWait (c : Thread nD τ) s () (tallies l) :=
  MayOwe.of_cut (L := L) (lev := lv) n (fun p hp => by rw [Finset.mem_singleton.mp hp]; exact Finset.mem_singleton_self _)
    (fun g u hg => by obtain ⟨p, -, rfl⟩ := tallies_pos hg; exact Finset.mem_singleton_self _)
    (fun p hp => by rw [Finset.mem_singleton.mp hp]; exact hs)
    (fun g u hg => by obtain ⟨p, hp, rfl⟩ := tallies_pos hg; rw [lv_cell]; exact hl p hp)

/-- The device owes the payments of `l`. -/
def due (c : Dev nD) (l : List Due) : sProp 𝕄 := iprop(∃ W, owes (c : Thread nD τ) (tallies l) W)

/-- The cells' invariants (under the names `K`), that all of them have begun, and the levels: what every device knows. -/
def World (K : Dev nD × CellIx → ℕ) : sProp 𝕄 :=
  iprop((bigSep Finset.univ fun p : Dev nD × CellIx => iprop(cellInv ER (sched m ρ) (K p) (cell p.1 p.2) ∗ reached ER (cell p.1 p.2) 0)) ∗ levAts L lv)

instance World_persistent (K : Dev nD × CellIx → ℕ) : BI.Persistent (World m ρ K) := by unfold World; infer_instance

theorem World_cell (K : Dev nD × CellIx → ℕ) (c : Dev nD) (k : CellIx) :
    World m ρ K ⊢ iprop(cellInv ER (sched m ρ) (K (c, k)) (cell c k) ∗ reached ER (cell c k) 0) := by
  have h : (bigSep Finset.univ fun p : Dev nD × CellIx => (iprop(cellInv ER (sched m ρ) (K p) (cell p.1 p.2) ∗ reached ER (cell p.1 p.2) 0) : sProp 𝕄))
      ⊢ iprop(cellInv ER (sched m ρ) (K (c, k)) (cell c k) ∗ reached ER (cell c k) 0) := bigSep_elim (Finset.mem_univ (c, k))
  unfold World
  iintro ⟨H, -⟩
  iapply h; iexact H
theorem World_levels (K : Dev nD × CellIx → ℕ) : World m ρ K ⊢ levAts L lv := by
  unfold World
  iintro ⟨-, H⟩; iexact H

end Cert.KernelIdeal.Mesh

end
-- ==== Proof.KernelIdeal.Steps.lean ====
/-
  The stages' steps: a copy sent, a copy awaited, a chunk widened.
-/
module

public import proofs.«01_k».proof.Proof.KernelIdeal.Protocol

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ) (c : Dev nD)
variable {α : Type}

/-- The program runs on device `c` to `Q`. -/
abbrev runs (p : BodyProg F α) (Q : α → sProp 𝕄) : sProp 𝕄 := wp frame (wpE (defs₀ (F := F)) 𝒱₀ (c : Thread nD τ) none) Set.univ p Q

/-! ## Rows -/

theorem rows_set (d : Dev nD) (r : Fin 4) : (rowsM d r).view.set = (rect32 (off32 d r) (off32_inb d r)).set := View.set_slice_whole cc0_scratch2 _
theorem half_set (d : Dev nD) (r : Fin 4) (h : Fin 2) : (halfM d r h).view.set = (rect16 (off16 d r h) (off16_inb d r h)).set := View.set_slice_whole cc0_scratch2 _

theorem mem_rect32 (d : Dev nD) (r : Fin 4) (i : S512x512.Idx) :
    i ∈ (rect32 (off32 d r) (off32_inb d r)).set ↔ 256 * cx d + 128 * cz d + 32 * r.val ≤ (i 0).val ∧ (i 0).val < 256 * cx d + 128 * cz d + 32 * r.val + 32 := by
  have h1 : (i 1).val < 512 := (i 1).isLt
  rw [Rect.mem_set_unit, Fin.forall_fin_two]
  exact ⟨fun h => h.1, fun h => ⟨h, Nat.zero_le _, h1.trans_eq (Nat.zero_add 512).symm⟩⟩
theorem mem_rect16 (d : Dev nD) (r : Fin 4) (h : Fin 2) (i : S512x512.Idx) :
    i ∈ (rect16 (off16 d r h) (off16_inb d r h)).set
      ↔ 256 * cx d + 128 * cz d + 32 * r.val + 16 * h.val ≤ (i 0).val ∧ (i 0).val < 256 * cx d + 128 * cz d + 32 * r.val + 16 * h.val + 16 := by
  have h1 : (i 1).val < 512 := (i 1).isLt
  rw [Rect.mem_set_unit, Fin.forall_fin_two]
  exact ⟨fun h => h.1, fun h => ⟨h, Nat.zero_le _, h1.trans_eq (Nat.zero_add 512).symm⟩⟩

theorem rect_union (d : Dev nD) (r : Fin 4) :
    (rect32 (off32 d r) (off32_inb d r)).set = (rect16 (off16 d r 0) (off16_inb d r 0)).set ∪ (rect16 (off16 d r 1) (off16_inb d r 1)).set := by
  ext i
  rw [Finset.mem_union, mem_rect32, mem_rect16, mem_rect16]
  show _ ↔ (_ + 16 * 0 ≤ _ ∧ _ < _ + 16 * 0 + 16) ∨ (_ + 16 * 1 ≤ _ ∧ _ < _ + 16 * 1 + 16)
  omega
theorem rect_disjoint (d : Dev nD) (r : Fin 4) :
    Disjoint (rect16 (off16 d r 0) (off16_inb d r 0)).set (rect16 (off16 d r 1) (off16_inb d r 1)).set := by
  rw [Finset.disjoint_left]
  intro i
  rw [mem_rect16, mem_rect16]
  show (_ + 16 * 0 ≤ _ ∧ _ < _ + 16 * 0 + 16) → ¬ (_ + 16 * 1 ≤ _ ∧ _ < _ + 16 * 1 + 16)
  omega

/-- A chunk is its two halves. -/
theorem halves (d : Dev nD) (r : Fin 4) (q : PosShare TreeShare) (f : Buf (Elt F) ((rowsM d r).view.loc (c : Thread nD τ))) :
    held (F := F) c (rowsM d r) q f ⊣⊢ iprop(held (F := F) c (halfM d r 0) q f ∗ held (F := F) c (halfM d r 1) q f) := by
  have h := pointsTo_union (Ix := Unit) (Name := ℕ) (U := UU) (Lvl := ℕ) (Val := Elt F) (ℓ := (c : Thread nD τ).loc cc0_scratch2) (q := q) (f := f) (rect_disjoint d r)
  rw [← rect_union] at h
  unfold held
  rw [rows_set, half_set, half_set]
  exact h

/-- A whole share is its two half shares. -/
theorem shares {s : Shape} {e : EltTy} (M : Memref sig .tc .vmem s e) (f : Buf (Elt F) (M.view.loc (c : Thread nD τ))) :
    held (F := F) c M fullShare f ⊣⊢ iprop(held (F := F) c M fullShare.left f ∗ held (F := F) c M fullShare.right f) :=
  pointsTo_share (PosShare.mem_left_op_right fullShare)

/-- Contents that agree on a view's elements. -/
theorem held_congr {s : Shape} {e : EltTy} (M : Memref sig .tc .vmem s e) {q : PosShare TreeShare} {f g : Buf (Elt F) (M.view.loc (c : Thread nD τ))}
    (h : ∀ i ∈ M.view.set, f i = g i) : held (F := F) c M q f = held (F := F) c M q g := pointsTo_congr h

/-- What a copy of the same rows leaves. -/
theorem held_write {s : Shape} {e : EltTy} (M : Memref sig .tc .vmem s e) {q : PosShare TreeShare} {g f : M.view.ty.Contents (Elt F)}
    {w : s.Idx → Elt F e} (h : w = M.view.read (Elt F) g) :
    held (F := F) c M q (M.view.write (Elt F) f w Finset.univ) = held (F := F) c M q g := by
  subst h; exact held_congr c M (write_read_on M.view f g)

theorem zero_mem_duties (k : Fin 5 × Fin 4 × Bool) : (0 : Fin 3) ∈ (sched (F := F) m ρ).duties (cell c (some k)) 0 := by
  rw [duties_cell]; exact Finset.mem_singleton_self _

/-! ## Waiting -/

/-- A wait for all of one of the device's copy cells: the payload, and the cell closed. -/
theorem wp_take (k : Fin 5 × Fin 4 × Bool) {w : TpuEff nD τ sig (Elt F) Λ₀ .tc PUnit} {n : ℕ}
    (hw : ∀ G : PUnit → sProp 𝕄, wpE (defs₀ (F := F)) 𝒱₀ (c : Thread nD τ) none Set.univ w G = waitSpec (c : Thread nD τ) Set.univ (xsem k) n G)
    (hn : n = amt k.1) {l : List Due} (hl : ∀ p ∈ l, levelOf (some k) < levelOf p.2) {f : PUnit → BodyProg F α} {Q : α → sProp 𝕄} :
    iprop(World m ρ K ∗ cred (tallyAt (cell c (some k)) () (amt k.1)) ∗ atPos ER (cell c (some k)) 0 ∅ 0 ∗ due c l)
      ⊢ iprop(((payOf m ρ c (some k) 0 ∗ semVal (cell c (some k)) 0 ∗ due c l) -∗ runs c (f ⟨⟩) Q) -∗ runs c (.op w f) Q) := by
  subst hn
  unfold due
  iintro ⟨#HW, Hcr, Hat, ⟨%W, HO⟩⟩ Hk
  ihave #HI := (World_cell m ρ K c (some k)) $$ HW
  icases HI with ⟨#HI, -⟩
  ihave #HL := (World_levels m ρ K) $$ HW
  iapply (Rounds.wp_wait_rest_token 𝒱₀ ER (sched m ρ) (c : Thread nD τ) none (κ := K (c, some k)) hw (Set.mem_univ _) ()
      (O := tallies l) (W := W) (R := 0) (m := 0) (T := ∅) (by rw [Nat.zero_add]; exact (expect_xfer m ρ c k).symm)) $$ [Hcr HO Hat]
  · isplitr; · iexact HI
    isplitl [Hcr]; · iexact Hcr
    isplitl [HO]; · iexact HO
    isplitr
    · iapply (mayWait_of_level (F := F) c (xsem k) (levelOf (some k)) (by rw [show xsem k = csem (some k) from rfl, cellIx_csem]; exact le_rfl) l hl)
      iexact HL
    iexact Hat
  iintro ⟨HO, Hat, -, Hpay⟩
  imod (Rounds.cell_close ER (sched m ρ) (Set.mem_univ (K (c, some k))) (fun h => h) (R := 0 + 1) (duties_later m ρ (cell c (some k)))) $$ [Hat] with Hz
  · isplitr; · iexact HI
    iexact Hat
  iapply Hk
  isplitl [Hpay]; · iapply (Entails.of_eq (rest_xfer m ρ c k)); iexact Hpay
  isplitl [Hz]; · iexact Hz
  iexists _; iexact HO

/-! ## Sending -/

/-- A copy of kind `a` of chunk `r`. -/
theorem wp_push (a : Fin 5) (r : Fin 4) {s : Shape} {src dst : Memref sig .tc .vmem s .bf16} {A : DmaSems sig S8} {p : Dev nD}
    {hsc : (dst : Memref sig (Dev.tc p : Thread nD τ).2.kind .vmem s .bf16).view.ref.isScScratch = false}
    {hsrc : src.view.WordExact} {hdst : dst.view.WordExact}
    {hsem : DmaTarget.Typed .vmem (.dma (semOf A (recvIx r))) (.remote (Dev.tc p : Thread nD τ) dst (.dma (semOf A (sendIx r))) hsc)}
    (hA : A = semArr a) (hp : p = peer a c) (hN : dst.view.dmaCredit = amt a)
    {q : PosShare TreeShare} {g : Buf (Elt F) (src.view.loc (c : Thread nD τ))} {fd : Buf (Elt F) (dst.view.loc (peer a c : Thread nD τ))}
    (h₁ : held (F := F) c src q g ⊢ sent m ρ c r a)
    (h₂ : held (F := F) (peer a c) dst fullShare (dst.view.write (Elt F) fd (src.view.read (Elt F) g) Finset.univ) ⊢ arrived m ρ (peer a c) r a)
    {l : List Due} {f : PUnit → BodyProg F α} {Q : α → sProp 𝕄} :
    iprop(World m ρ K ∗ held (F := F) c src q g ∗ held (F := F) (peer a c) dst fullShare fd ∗ due c ((peer a c, some (a, r, true)) :: l)
        ∗ dutyTok ER (sendC a r c) 0 0 ∗ dutyTok ER (recvC a r (peer a c)) 0 0)
      ⊢ iprop(((cred (tallyAt (sendC a r c) () (amt a)) ∗ due c l) -∗ runs c (f ⟨⟩) Q)
          -∗ runs c (.op (.enqueueDma src (.remote (Dev.tc p : Thread nD τ) dst (.dma (semOf A (sendIx r))) hsc) (.dma (semOf A (recvIx r))) hsrc hdst hsem) f) Q) := by
  subst hA hp
  unfold due
  iintro ⟨#HW, Hs, Hd, ⟨%W, HO⟩, Ht1, Ht2⟩ Hk
  ihave #H1 := (World_cell m ρ K c (some (a, r, false))) $$ HW
  ihave #H2 := (World_cell m ρ K (peer a c) (some (a, r, true))) $$ HW
  icases H1 with ⟨#HI1, #HR1⟩
  icases H2 with ⟨#HI2, #HR2⟩
  iapply (Rounds.wp_send_pointsTo 𝒱₀ ER (sched m ρ) (c : Thread nD τ) none (κ₁ := K (c, some (a, r, false))) (κ₂ := K (peer a c, some (a, r, true)))
      (r₁ := 0) (r₂ := 0) (d₁ := 0) (d₂ := 0) (fd := fd) (q := q) (fs := g)
      (zero_mem_duties m ρ c (a, r, false)) (zero_mem_duties m ρ (peer a c) (a, r, true))
      () () (amt a) (show dst.view.amount (.dma (semOf (semArr a) (recvIx r))) = amt a from hN) (amount_cell m ρ c (some (a, r, false)) 0) (amount_cell m ρ (peer a c) (some (a, r, true)) 0) (tallies l) rfl (W := W)
      (h₁.trans (Entails.of_eq (payload_cell m ρ c (some (a, r, false)) 0).symm))
      (h₂.trans (Entails.of_eq (payload_cell m ρ (peer a c) (some (a, r, true)) 0).symm))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hcr, HO⟩
  iapply Hk
  isplitl [Hcr]; · iexact Hcr
  iexists _; iexact HO

/-! ## Widening -/

/-- Chunk `r` of another device's block, widened into the result. -/
theorem wp_widen (d : Dev nD) (hd : blockOf d ≠ blockOf c) (r : Fin 4) {o : Fin 2 → ℕ} {h : InB32 o} (ho : o = off32 d r)
    {q : PosShare TreeShare} {f : PUnit → BodyProg F α} {Q : α → sProp 𝕄} :
    iprop(held (F := F) c (rowsM d r) q (sumsG m ρ c) ∗ free (F := F) c (outSl d r))
      ⊢ iprop(((held (F := F) c (rowsM d r) q (sumsG m ρ c) ∗ held (F := F) c (outSl d r) fullShare (outG m ρ c)) -∗ runs c (f ⟨⟩) Q)
          -∗ runs c (widen o h >>= f) Q) := by
  subst ho
  unfold widen
  simp only [Prog.lift, Prog.bind_op, Prog.bind_ret]
  iintro ⟨Hr, ⟨%g, Ho⟩⟩ Hk
  iapply (wp_load_rect 𝒱₀ (c : Thread nD τ) none Set.univ (m := cmM) (r := rect32 (off32 d r) h) (S := (rowsM d r).view.set) (q := q) (f := sumsG m ρ c) subset_rfl) $$ Hr
  iintro Hr
  iapply (wp_load_rect 𝒱₀ (c : Thread nD τ) none Set.univ (m := outM) (r := rect32 (off32 d r) h) (S := (outSl d r).view.set) (q := fullShare) (f := g) subset_rfl) $$ Ho
  iintro Ho
  iapply (wp_store 𝒱₀ (c : Thread nD τ) none Set.univ (m := outM) (r := rect32 (off32 d r) h) (Mk := Finset.univ) (S := (outSl d r).view.set) (f := g)
    (by rw [View.setOn_univ])) $$ Ho
  iintro Ho
  iapply Hk
  isplitl [Hr]; · iexact Hr
  iapply (Entails.of_eq (held_write (F := F) c (outSl d r) (f := g) ((congrArg k0_pay17 (read_sumsG m ρ c d r)).trans (read_outG_other m ρ c d hd r).symm)))
  iexact Ho

end Cert.KernelIdeal.Mesh

end
-- ==== Proof.KernelIdeal.Chunk.lean ====
/-
  The stages: what a device holds for one chunk before and after each of them.
-/
module

public import proofs.«01_k».proof.Proof.KernelIdeal.Steps

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ) (c : Dev nD)
variable {α : Type}

/-! ## A copy's progress -/

/-- Nothing sent, nothing arrived: the tokens of both duties the copy pays, the rows it writes, the positions at both of
    the device's own cells, and the credit for what is to arrive. -/
def unsent (a : Fin 5) (r : Fin 4) : sProp 𝕄 :=
  iprop(dutyTok ER (sendC a r c) 0 0 ∗ dutyTok ER (recvC a r (peer a c)) 0 0 ∗ target (F := F) c r a
    ∗ atPos ER (sendC a r c) 0 ∅ 0 ∗ atPos ER (recvC a r c) 0 ∅ 0 ∗ cred (tallyAt (recvC a r c) () (amt a)))
/-- Sent. -/
def issued (a : Fin 5) (r : Fin 4) : sProp 𝕄 :=
  iprop(cred (tallyAt (sendC a r c) () (amt a)) ∗ atPos ER (sendC a r c) 0 ∅ 0
    ∗ atPos ER (recvC a r c) 0 ∅ 0 ∗ cred (tallyAt (recvC a r c) () (amt a)))
/-- Sent, and the other side's has arrived. -/
def landed (a : Fin 5) (r : Fin 4) : sProp 𝕄 :=
  iprop(cred (tallyAt (sendC a r c) () (amt a)) ∗ atPos ER (sendC a r c) 0 ∅ 0 ∗ semVal (recvC a r c) 0)
/-- Over: both cells closed. -/
def over (a : Fin 5) (r : Fin 4) : sProp 𝕄 := iprop(semVal (sendC a r c) 0 ∗ semVal (recvC a r c) 0)

/-- The copy's arrival awaited. -/
theorem wp_land (a : Fin 5) (r : Fin 4) {w : TpuEff nD τ sig (Elt F) Λ₀ .tc PUnit} {n : ℕ}
    (hw : ∀ G : PUnit → sProp 𝕄, wpE (defs₀ (F := F)) 𝒱₀ (c : Thread nD τ) none Set.univ w G = waitSpec (c : Thread nD τ) Set.univ (xsem (a, r, true)) n G)
    (hn : n = amt a) {l : List Due} (hl : ∀ p ∈ l, levelOf (some (a, r, true)) < levelOf p.2) {f : PUnit → BodyProg F α} {Q : α → sProp 𝕄} :
    iprop(World m ρ K ∗ issued (F := F) c a r ∗ due c l)
      ⊢ iprop(((arrived m ρ c r a ∗ landed (F := F) c a r ∗ due c l) -∗ runs c (f ⟨⟩) Q) -∗ runs c (.op w f) Q) := by
  unfold issued landed
  iintro ⟨#HW, ⟨Hcs, Has, Har, Hcr⟩, Hd⟩ Hk
  iapply (wp_take m ρ K c (a, r, true) hw hn hl) $$ [Hcr Har Hd]
  · isplitr; · iexact HW
    isplitl [Hcr]; · iexact Hcr
    isplitl [Har]; · iexact Har
    iexact Hd
  iintro ⟨Hp, Hz, Hd⟩
  iapply Hk
  isplitl [Hp]
  · iapply (Entails.of_eq (show payOf m ρ c (some (a, r, true)) 0 = arrived m ρ c r a from rfl)); iexact Hp
  isplitr [Hd]
  · isplitl [Hcs]; · iexact Hcs
    isplitl [Has] <;> iassumption
  iexact Hd

/-- The copy's sending awaited. -/
theorem wp_finish (a : Fin 5) (r : Fin 4) {w : TpuEff nD τ sig (Elt F) Λ₀ .tc PUnit} {n : ℕ}
    (hw : ∀ G : PUnit → sProp 𝕄, wpE (defs₀ (F := F)) 𝒱₀ (c : Thread nD τ) none Set.univ w G = waitSpec (c : Thread nD τ) Set.univ (xsem (a, r, false)) n G)
    (hn : n = amt a) {f : PUnit → BodyProg F α} {Q : α → sProp 𝕄} :
    iprop(World m ρ K ∗ landed (F := F) c a r ∗ due c [])
      ⊢ iprop(((sent m ρ c r a ∗ over (F := F) c a r ∗ due c []) -∗ runs c (f ⟨⟩) Q) -∗ runs c (.op w f) Q) := by
  unfold landed over
  iintro ⟨#HW, ⟨Hcs, Has, Hz'⟩, Hd⟩ Hk
  iapply (wp_take m ρ K c (a, r, false) hw hn (l := []) (fun p hp => nomatch hp)) $$ [Hcs Has Hd]
  · isplitr; · iexact HW
    isplitl [Hcs]; · iexact Hcs
    isplitl [Has]; · iexact Has
    iexact Hd
  iintro ⟨Hp, Hz, Hd⟩
  iapply Hk
  isplitl [Hp]
  · iapply (Entails.of_eq (show payOf m ρ c (some (a, r, false)) 0 = sent m ρ c r a from rfl)); iexact Hp
  isplitr [Hd]
  · isplitl [Hz] <;> iassumption
  iexact Hd

/-- The copy issued. -/
theorem wp_issue (a : Fin 5) (r : Fin 4) {s : Shape} {src dst : Memref sig .tc .vmem s .bf16} {A : DmaSems sig S8} {p : Dev nD}
    {hsc : (dst : Memref sig (Dev.tc p : Thread nD τ).2.kind .vmem s .bf16).view.ref.isScScratch = false}
    {hsrc : src.view.WordExact} {hdst : dst.view.WordExact}
    {hsem : DmaTarget.Typed .vmem (.dma (semOf A (recvIx r))) (.remote (Dev.tc p : Thread nD τ) dst (.dma (semOf A (sendIx r))) hsc)}
    (hA : A = semArr a) (hp : p = peer a c) (hN : dst.view.dmaCredit = amt a)
    {q : PosShare TreeShare} {g : Buf (Elt F) (src.view.loc (c : Thread nD τ))}
    (ht : target (F := F) c r a ⊢ free (F := F) (peer a c) dst)
    (h₁ : held (F := F) c src q g ⊢ sent m ρ c r a)
    (h₂ : ∀ fd, held (F := F) (peer a c) dst fullShare (dst.view.write (Elt F) fd (src.view.read (Elt F) g) Finset.univ) ⊢ arrived m ρ (peer a c) r a)
    {l : List Due} {f : PUnit → BodyProg F α} {Q : α → sProp 𝕄} :
    iprop(World m ρ K ∗ unsent (F := F) c a r ∗ held (F := F) c src q g ∗ due c ((peer a c, some (a, r, true)) :: l))
      ⊢ iprop(((issued (F := F) c a r ∗ due c l) -∗ runs c (f ⟨⟩) Q)
          -∗ runs c (.op (.enqueueDma src (.remote (Dev.tc p : Thread nD τ) dst (.dma (semOf A (sendIx r))) hsc) (.dma (semOf A (recvIx r))) hsrc hdst hsem) f) Q) := by
  unfold unsent issued
  iintro ⟨#HW, ⟨Ht1, Ht2, Htg, Has, Har, Hcr⟩, Hs, Hd⟩ Hk
  ihave Htg := ht $$ Htg
  icases Htg with ⟨%fd, Htg⟩
  iapply (wp_push m ρ K c a r hA hp hN (fd := fd) h₁ (h₂ fd)) $$ [Hs Htg Hd Ht1 Ht2]
  · isplitr; · iexact HW
    isplitl [Hs]; · iexact Hs
    isplitl [Htg]; · iexact Htg
    isplitl [Hd]; · iexact Hd
    isplitl [Ht1] <;> iassumption
  iintro ⟨Hcs, Hd⟩
  iapply Hk
  isplitr [Hd]
  · isplitl [Hcs]; · iexact Hcs
    isplitl [Has]; · iexact Has
    isplitl [Har] <;> iassumption
  iexact Hd

/-! ## The chunk before and after each stage -/

/-- Rows of the result not yet written: of the blocks of the z, the x and the diagonal neighbour. -/
abbrev freeOut (d : Dev nD) (r : Fin 4) : sProp 𝕄 := free (F := F) c (outSl d r)
abbrev doneOut (d : Dev nD) (r : Fin 4) : sProp 𝕄 := held (F := F) c (outSl d r) fullShare (outG m ρ c)

def chunk0 (r : Fin 4) : sProp 𝕄 :=
  iprop(unsent (F := F) c 0 r ∗ unsent (F := F) c 1 r ∗ unsent (F := F) c 2 r ∗ unsent (F := F) c 3 r ∗ unsent (F := F) c 4 r
    ∗ free (F := F) c (ypSl r) ∗ free (F := F) c (rowsM c r) ∗ freeOut (F := F) c c r
    ∗ freeOut (F := F) c (zp c) r ∗ freeOut (F := F) c (xp c) r ∗ freeOut (F := F) c (dg c) r)
def chunk1 (r : Fin 4) : sProp 𝕄 :=
  iprop(issued (F := F) c 0 r ∗ unsent (F := F) c 1 r ∗ unsent (F := F) c 2 r ∗ unsent (F := F) c 3 r ∗ unsent (F := F) c 4 r
    ∗ free (F := F) c (rowsM c r)
    ∗ (∃ f : (outSl c r).view.ty.Contents (Elt F), ⌜(outSl c r).view.read (Elt F) f = prod m ρ c r⌝ ∗ held (F := F) c (outSl c r) fullShare f)
    ∗ freeOut (F := F) c (zp c) r ∗ freeOut (F := F) c (xp c) r ∗ freeOut (F := F) c (dg c) r)
def chunk2 (r : Fin 4) : sProp 𝕄 :=
  iprop(landed (F := F) c 0 r ∗ arrived m ρ c r 0 ∗ issued (F := F) c 1 r ∗ issued (F := F) c 2 r ∗ unsent (F := F) c 3 r ∗ unsent (F := F) c 4 r
    ∗ doneOut m ρ c c r ∗ freeOut (F := F) c (zp c) r ∗ freeOut (F := F) c (xp c) r ∗ freeOut (F := F) c (dg c) r)
/-- What is kept of a relayed chunk: one half share of all of it, the other of the half not passed on. -/
def kept (d : Dev nD) (r : Fin 4) (h : Fin 2) : sProp 𝕄 :=
  iprop(held (F := F) c (rowsM d r) fullShare.right (sumsG m ρ c) ∗ held (F := F) c (halfM d r h) fullShare.left (sumsG m ρ c))
def chunk3 (r : Fin 4) : sProp 𝕄 :=
  iprop(landed (F := F) c 0 r ∗ arrived m ρ c r 0 ∗ landed (F := F) c 1 r ∗ issued (F := F) c 2 r ∗ issued (F := F) c 3 r ∗ unsent (F := F) c 4 r
    ∗ kept m ρ c (zp c) r 1 ∗ doneOut m ρ c c r ∗ doneOut m ρ c (zp c) r ∗ freeOut (F := F) c (xp c) r ∗ freeOut (F := F) c (dg c) r)
def chunk4 (r : Fin 4) : sProp 𝕄 :=
  iprop(landed (F := F) c 0 r ∗ arrived m ρ c r 0 ∗ landed (F := F) c 1 r ∗ landed (F := F) c 2 r ∗ issued (F := F) c 3 r ∗ issued (F := F) c 4 r
    ∗ kept m ρ c (zp c) r 1 ∗ kept m ρ c (xp c) r 0
    ∗ doneOut m ρ c c r ∗ doneOut m ρ c (zp c) r ∗ doneOut m ρ c (xp c) r ∗ freeOut (F := F) c (dg c) r)
def chunk5 (r : Fin 4) : sProp 𝕄 :=
  iprop(landed (F := F) c 0 r ∗ arrived m ρ c r 0 ∗ landed (F := F) c 1 r ∗ landed (F := F) c 2 r ∗ landed (F := F) c 3 r ∗ landed (F := F) c 4 r
    ∗ kept m ρ c (zp c) r 1 ∗ kept m ρ c (xp c) r 0 ∗ held (F := F) c (rowsM (dg c) r) fullShare (sumsG m ρ c)
    ∗ doneOut m ρ c c r ∗ doneOut m ρ c (zp c) r ∗ doneOut m ρ c (xp c) r ∗ doneOut m ρ c (dg c) r)
def chunk6 (r : Fin 4) : sProp 𝕄 :=
  iprop((over (F := F) c 0 r ∗ over (F := F) c 1 r ∗ over (F := F) c 2 r ∗ over (F := F) c 3 r ∗ over (F := F) c 4 r)
    ∗ held (F := F) c (ypSl r) fullShare (partG m ρ c) ∗ held (F := F) c (yrSl r) fullShare (partG m ρ (yp c))
    ∗ (held (F := F) c (rowsM c r) fullShare (sumsG m ρ c) ∗ held (F := F) c (rowsM (zp c) r) fullShare (sumsG m ρ c)
      ∗ held (F := F) c (rowsM (xp c) r) fullShare (sumsG m ρ c) ∗ held (F := F) c (rowsM (dg c) r) fullShare (sumsG m ρ c))
    ∗ (doneOut m ρ c c r ∗ doneOut m ρ c (zp c) r ∗ doneOut m ρ c (xp c) r ∗ doneOut m ρ c (dg c) r))

/-! ## The stages -/

/-- The two arguments' buffers. -/
def args : sProp 𝕄 :=
  iprop((dyM.view.loc (c : Thread nD τ) ↦{fullShare} dyG m ρ c) ∗ (wM.view.loc (c : Thread nD τ) ↦{fullShare} wG m ρ c))

theorem wp_product (r : Fin 4) {p : Dev nD} (hp : p = yp c) {l : List Due} {f : PUnit → BodyProg F α} {Q : α → sProp 𝕄} :
    iprop(World m ρ K ∗ args m ρ c ∗ chunk0 (F := F) c r ∗ due c ((yp c, some (0, r, true)) :: l))
      ⊢ iprop(((args m ρ c ∗ chunk1 m ρ c r ∗ due c l) -∗ runs c (f ⟨⟩) Q) -∗ runs c (product c r p >>= f) Q) := by
  unfold product
  have key : ∀ (o₁ o : Fin 2 → ℕ) (h₁ : InBdy o₁) (h : InB32 o), o₁ = off32 c r → o = off32 c r →
      iprop(World m ρ K ∗ args m ρ c ∗ chunk0 (F := F) c r ∗ due c ((yp c, some (0, r, true)) :: l))
      ⊢ iprop(((args m ρ c ∗ chunk1 m ρ c r ∗ due c l) -∗ runs c (f ⟨⟩) Q) -∗ runs c (partial' p r o₁ h₁ o h >>= f) Q) := by
    rintro _ _ h₁ h rfl rfl
    unfold partial' args chunk0 chunk1
    simp only [Prog.lift, Prog.bind_op, Prog.bind_ret]
    iintro ⟨#HW, ⟨Hdy, Hw⟩, ⟨H0, H1, H2, H3, H4, ⟨%fp, Hp⟩, Hrows, ⟨%fo, Ho⟩, Hrest⟩, Hd⟩ Hk
    iapply (wp_load 𝒱₀ (c : Thread nD τ) none Set.univ (m := dyM) (Finset.subset_univ _)) $$ Hdy; iintro Hdy
    iapply (wp_load 𝒱₀ (c : Thread nD τ) none Set.univ (m := wM) (Finset.subset_univ _)) $$ Hw; iintro Hw
    iapply (wp_load_rect 𝒱₀ (c : Thread nD τ) none Set.univ (m := outM) (r := rect32 (off32 c r) h) (S := (outSl c r).view.set) (q := fullShare) (f := fo) subset_rfl) $$ Ho
    iintro Ho
    iapply (wp_store 𝒱₀ (c : Thread nD τ) none Set.univ (m := outM) (r := rect32 (off32 c r) h) (Mk := Finset.univ) (S := (outSl c r).view.set) (f := fo)
      (by rw [View.setOn_univ])) $$ Ho
    iintro Ho
    iapply (wp_load_rect 𝒱₀ (c : Thread nD τ) none Set.univ (m := outM) (r := rect32 (off32 c r) h) (S := (outSl c r).view.set) (q := fullShare) subset_rfl) $$ Ho
    iintro Ho
    have hread : (outSl c r).view.read (Elt F) ((outSl c r).view.write (Elt F) fo (prod m ρ c r) Finset.univ) = prod m ρ c r := View.read_write_univ _ _
    rw [show (outM.access (rect32 (off32 c r) h)).read (Elt F) ((outM.access (rect32 (off32 c r) h)).write (Elt F) fo
        (k0_pay1 (dyM.view.readAt (Elt F) (rectDy (off32 c r) h₁).toLoadRect (dyG m ρ c)) (wM.view.readAt (Elt F) rectW.toLoadRect (wG m ρ c))) Finset.univ) = prod m ρ c r from hread]
    iapply (wp_load_rect 𝒱₀ (c : Thread nD τ) none Set.univ (m := ypM) (r := yRect r) (S := (ypSl r).view.set) (q := fullShare) (f := fp) subset_rfl) $$ Hp
    iintro Hp
    iapply (wp_store 𝒱₀ (c : Thread nD τ) none Set.univ (m := ypM) (r := yRect r) (Mk := Finset.univ) (S := (ypSl r).view.set) (f := fp)
      (by rw [View.setOn_univ])) $$ Hp
    iintro Hp
    ihave Hp := (Entails.of_eq (held_write (F := F) c (ypSl r) (f := fp) (g := partG m ρ c) (w := k0_pay2 (prod m ρ c r)) (read_partG m ρ c r).symm)) $$ Hp
    iapply (wp_issue m ρ K c 0 r (src := ypSl r) (dst := yrSl r) (A := cc0_scratch3) (p := p) rfl hp rfl (q := fullShare) (g := partG m ρ c)
      (Entails.of_eq rfl) (Entails.of_eq rfl)
      (fun fd => Entails.of_eq (by
        show held (F := F) (yp c) (yrSl r) fullShare _ = held (F := F) (yp c) (yrSl r) fullShare (partG m ρ (yp (yp c)))
        rw [yp_yp]
        exact held_write (F := F) (yp c) (yrSl r) rfl))) $$ [H0 Hp Hd]
    · isplitr; · iexact HW
      isplitl [H0]; · iexact H0
      isplitl [Hp]; · iexact Hp
      iexact Hd
    iintro ⟨H0, Hd⟩
    iapply Hk
    isplitl [Hdy Hw]
    · isplitl [Hdy] <;> iassumption
    isplitr [Hd]
    · isplitl [H0]; · iexact H0
      isplitl [H1]; · iexact H1
      isplitl [H2]; · iexact H2
      isplitl [H3]; · iexact H3
      isplitl [H4]; · iexact H4
      isplitl [Hrows]; · iexact Hrows
      isplitl [Ho]
      · iexists _; isplitr; · ipureintro; exact hread
        iexact Ho
      iexact Hrest
    iexact Hd
  exact key _ _ _ _ (off1_eq c r) (off2_eq c r)

/-- The wait for the y neighbour's chunk, and the sum. -/
theorem wp_accumulate (r : Fin 4) {o : Fin 2 → ℕ} {h : InB32 o} {w : (rect32 o h).PackedRows (EltTy.packing .bf16)} (ho : o = off32 c r)
    {l : List Due} (hl : ∀ p ∈ l, levelOf (some (0, r, true)) < levelOf p.2) {f : PUnit → BodyProg F α} {Q : α → sProp 𝕄} :
    iprop(World m ρ K ∗ issued (F := F) c 0 r
        ∗ (∃ g : (outSl c r).view.ty.Contents (Elt F), ⌜(outSl c r).view.read (Elt F) g = prod m ρ c r⌝ ∗ held (F := F) c (outSl c r) fullShare g)
        ∗ free (F := F) c (rowsM c r) ∗ due c l)
      ⊢ iprop(((landed (F := F) c 0 r ∗ arrived m ρ c r 0 ∗ doneOut m ρ c c r ∗ held (F := F) c (rowsM c r) fullShare (sumsG m ρ c) ∗ due c l)
            -∗ runs c (f ⟨⟩) Q) -∗ runs c (accumulate r o h w >>= f) Q) := by
  subst ho
  unfold accumulate
  simp only [Prog.lift, Prog.bind_op, Prog.bind_ret]
  iintro ⟨#HW, H0, ⟨%g, %hg, Ho⟩, ⟨%fr, Hr⟩, Hd⟩ Hk
  iapply (wp_land m ρ K c 0 r (n := (yrSl r).view.dmaCredit) (wpE_waitDma2_eq 𝒱₀ (c : Thread nD τ) none Set.univ) rfl hl) $$ [H0 Hd]
  · isplitr; · iexact HW
    isplitl [H0] <;> iassumption
  iintro ⟨Ha, H0, Hd⟩
  iapply (wp_load_rect 𝒱₀ (c : Thread nD τ) none Set.univ (m := outM) (r := rect32 (off32 c r) h) (S := (outSl c r).view.set) (q := fullShare) (f := g) subset_rfl) $$ Ho
  iintro Ho
  rw [show (outM.access (rect32 (off32 c r) h)).read (Elt F) g = prod m ρ c r from hg]
  ihave Ha := (Entails.of_eq (show arrived m ρ c r 0 = held (F := F) c (yrSl r) fullShare (partG m ρ (yp c)) from rfl)) $$ Ha
  iapply (wp_load_rect 𝒱₀ (c : Thread nD τ) none Set.univ (m := yrM) (r := yRect r) (S := (yrSl r).view.set) (q := fullShare) (f := partG m ρ (yp c)) subset_rfl) $$ Ha
  iintro Ha
  rw [show (yrM.access (yRect r)).read (Elt F) (partG m ρ (yp c)) = part m ρ (yp c) r from read_partG' m ρ (yp c) r]
  iapply (wp_load_rect 𝒱₀ (c : Thread nD τ) none Set.univ (m := outM) (r := rect32 (off32 c r) h) (S := (outSl c r).view.set) (q := fullShare) (f := g) subset_rfl) $$ Ho
  iintro Ho
  iapply (wp_store 𝒱₀ (c : Thread nD τ) none Set.univ (m := outM) (r := rect32 (off32 c r) h) (Mk := Finset.univ) (S := (outSl c r).view.set) (f := g)
    (by rw [View.setOn_univ])) $$ Ho
  iintro Ho
  iapply (wp_load_rect 𝒱₀ (c : Thread nD τ) none Set.univ (m := cmM) (r := rect32 (off32 c r) h) (S := (rowsM c r).view.set) (q := fullShare) (f := fr) subset_rfl) $$ Hr
  iintro Hr
  iapply (wp_store 𝒱₀ (c : Thread nD τ) none Set.univ (m := cmM) (r := rect32 (off32 c r) h) (Mk := Finset.univ) (S := (rowsM c r).view.set) (f := fr)
    (by rw [View.setOn_univ])) $$ Hr
  iintro Hr
  iapply Hk
  isplitl [H0]; · iexact H0
  isplitl [Ha]
  · iapply (Entails.of_eq (show held (F := F) c (yrSl r) fullShare (partG m ρ (yp c)) = arrived m ρ c r 0 from rfl)); iexact Ha
  isplitl [Ho]
  · iapply (Entails.of_eq (held_write (F := F) c (outSl c r) (f := g) (g := outG m ρ c) (read_outG_own m ρ c r).symm)); iexact Ho
  isplitr [Hd]
  · iapply (Entails.of_eq (held_write (F := F) c (rowsM c r) (f := fr) (g := sumsG m ρ c)
      (show rounded m ρ c r = _ by rw [read_sumsG, mate_self])))
    iexact Hr
  iexact Hd

theorem wp_push32 (a : Fin 5) (A : DmaSems sig S8) (hA : A = semArr a) {p : Dev nD} (hp : p = peer a c) (d : Dev nD) (r : Fin 4) {o : Fin 2 → ℕ} {h : InB32 o}
    {w : (rect32 o h).WholeWords (EltTy.packing .bf16)} (ho : o = off32 d r) (hN : (rowsM 0 0).view.dmaCredit = amt a)
    {q : PosShare TreeShare} (ht : target (F := F) c r a ⊢ free (F := F) (peer a c) (rowsM d r))
    (h₁ : held (F := F) c (rowsM d r) q (sumsG m ρ c) ⊢ sent m ρ c r a)
    (h₂ : held (F := F) (peer a c) (rowsM d r) fullShare (sumsG m ρ c) ⊢ arrived m ρ (peer a c) r a)
    {l : List Due} {f : PUnit → BodyProg F α} {Q : α → sProp 𝕄} :
    iprop(World m ρ K ∗ unsent (F := F) c a r ∗ held (F := F) c (rowsM d r) q (sumsG m ρ c) ∗ due c ((peer a c, some (a, r, true)) :: l))
      ⊢ iprop(((issued (F := F) c a r ∗ due c l) -∗ runs c (f ⟨⟩) Q) -∗ runs c (push32 A p r o h w >>= f) Q) := by
  subst ho
  unfold push32
  simp only [Prog.lift, Prog.bind_op, Prog.bind_ret]
  exact wp_issue m ρ K c a r (src := rowsM d r) (dst := rowsM d r) hA hp hN ht h₁
    fun fd => (Entails.of_eq (held_write (F := F) (peer a c) (rowsM d r) rfl)).trans h₂

theorem wp_push16 (a : Fin 5) (A : DmaSems sig S8) (hA : A = semArr a) {p : Dev nD} (hp : p = peer a c) (d : Dev nD) (r : Fin 4) (b : Fin 2) {o : Fin 2 → ℕ} {h : InB16 o}
    {w : (rect16 o h).WholeWords (EltTy.packing .bf16)} (ho : o = off16 d r b) (hN : (halfM 0 0 0).view.dmaCredit = amt a)
    {q : PosShare TreeShare} (ht : target (F := F) c r a ⊢ free (F := F) (peer a c) (halfM d r b))
    (h₁ : held (F := F) c (halfM d r b) q (sumsG m ρ c) ⊢ sent m ρ c r a)
    (h₂ : held (F := F) (peer a c) (halfM d r b) fullShare (sumsG m ρ c) ⊢ arrived m ρ (peer a c) r a)
    {l : List Due} {f : PUnit → BodyProg F α} {Q : α → sProp 𝕄} :
    iprop(World m ρ K ∗ unsent (F := F) c a r ∗ held (F := F) c (halfM d r b) q (sumsG m ρ c) ∗ due c ((peer a c, some (a, r, true)) :: l))
      ⊢ iprop(((issued (F := F) c a r ∗ due c l) -∗ runs c (f ⟨⟩) Q) -∗ runs c (push16 A p r o h w >>= f) Q) := by
  subst ho
  unfold push16
  simp only [Prog.lift, Prog.bind_op, Prog.bind_ret]
  exact wp_issue m ρ K c a r (src := halfM d r b) (dst := halfM d r b) hA hp hN ht h₁
    fun fd => (Entails.of_eq (held_write (F := F) (peer a c) (halfM d r b) rfl)).trans h₂

theorem wp_combine (r : Fin 4) {pz px : Dev nD} (hz : pz = zp c) (hx : px = xp c) {l : List Due}
    (hl : ∀ p ∈ l, levelOf (some (0, r, true)) < levelOf p.2) {f : PUnit → BodyProg F α} {Q : α → sProp 𝕄} :
    iprop(World m ρ K ∗ chunk1 m ρ c r ∗ due c ((zp c, some (1, r, true)) :: (xp c, some (2, r, true)) :: l))
      ⊢ iprop(((chunk2 m ρ c r ∗ due c l) -∗ runs c (f ⟨⟩) Q) -∗ runs c (combine c r pz px >>= f) Q) := by
  unfold combine chunk1 chunk2
  simp only [Prog.bind_assoc]
  iintro ⟨#HW, ⟨H0, H1, H2, H3, H4, Hr, Ho, Hrest⟩, Hd⟩ Hk
  iapply (wp_accumulate m ρ K c r (off2_eq c r) (l := (zp c, some (1, r, true)) :: (xp c, some (2, r, true)) :: l)
    (by
      intro p hp
      rcases List.mem_cons.mp hp with rfl | hp; · exact Nat.lt_succ_self 2
      rcases List.mem_cons.mp hp with rfl | hp; · exact Nat.lt_succ_self 2
      exact hl p hp)) $$ [H0 Ho Hr Hd]
  · isplitr; · iexact HW
    isplitl [H0]; · iexact H0
    isplitl [Ho]; · iexact Ho
    isplitl [Hr]; · iexact Hr
    iexact Hd
  iintro ⟨H0, Ha, Ho, Hr, Hd⟩
  ihave Hr := (shares c (rowsM c r) _).1 $$ Hr
  icases Hr with ⟨Hl, Hr⟩
  iapply (wp_push32 m ρ K c 1 cc0_scratch4 rfl hz c r (off3_eq c r) rfl (Entails.of_eq rfl) (Entails.of_eq rfl)
    (Entails.of_eq (by
      show _ = held (F := F) (zp c) (rowsM (zp (zp c)) r) fullShare (sumsG m ρ (zp c))
      rw [zp_zp, sumsG_zp]; rfl))) $$ [H1 Hl Hd]
  · isplitr; · iexact HW
    isplitl [H1]; · iexact H1
    isplitl [Hl]; · iexact Hl
    iexact Hd
  iintro ⟨H1, Hd⟩
  iapply (wp_push32 m ρ K c 2 cc0_scratch5 rfl hx c r (off3_eq c r) rfl (Entails.of_eq rfl) (Entails.of_eq rfl)
    (Entails.of_eq (by
      show _ = held (F := F) (xp c) (rowsM (xp (xp c)) r) fullShare (sumsG m ρ (xp c))
      rw [xp_xp, sumsG_xp]; rfl))) $$ [H2 Hr Hd]
  · isplitr; · iexact HW
    isplitl [H2]; · iexact H2
    isplitl [Hr]; · iexact Hr
    iexact Hd
  iintro ⟨H2, Hd⟩
  iapply Hk
  isplitr [Hd]
  · isplitl [H0]; · iexact H0
    isplitl [Ha]; · iexact Ha
    isplitl [H1]; · iexact H1
    isplitl [H2]; · iexact H2
    isplitl [H3]; · iexact H3
    isplitl [H4]; · iexact H4
    isplitl [Ho] <;> iassumption
  iexact Hd

/-- A wait for 32 rows. -/
theorem wp_await32 (a : Fin 5) (A : DmaSems sig S8) (hA : A = semArr a) (r : Fin 4) {o : Fin 2 → ℕ} {h : InB32 o}
    {w : (rect32 o h).WholeWords (EltTy.packing .bf16)} (hN : (rowsM 0 0).view.dmaCredit = amt a)
    {l : List Due} (hl : ∀ p ∈ l, levelOf (some (a, r, true)) < levelOf p.2) {f : PUnit → BodyProg F α} {Q : α → sProp 𝕄} :
    iprop(World m ρ K ∗ issued (F := F) c a r ∗ due c l)
      ⊢ iprop(((arrived m ρ c r a ∗ landed (F := F) c a r ∗ due c l) -∗ runs c (f ⟨⟩) Q) -∗ runs c (await32 A (recvIx r) o h w >>= f) Q) := by
  subst hA
  unfold await32
  simp only [Prog.lift, Prog.bind_op, Prog.bind_ret]
  exact wp_land m ρ K c a r (n := (cm32 o h).view.dmaCredit) (wpE_waitDma2_eq 𝒱₀ (c : Thread nD τ) none Set.univ) hN hl
/-- For 16. -/
theorem wp_await16 (a : Fin 5) (A : DmaSems sig S8) (hA : A = semArr a) (r : Fin 4) {o : Fin 2 → ℕ} {h : InB16 o}
    {w : (rect16 o h).WholeWords (EltTy.packing .bf16)} (hN : (halfM 0 0 0).view.dmaCredit = amt a)
    {l : List Due} (hl : ∀ p ∈ l, levelOf (some (a, r, true)) < levelOf p.2) {f : PUnit → BodyProg F α} {Q : α → sProp 𝕄} :
    iprop(World m ρ K ∗ issued (F := F) c a r ∗ due c l)
      ⊢ iprop(((arrived m ρ c r a ∗ landed (F := F) c a r ∗ due c l) -∗ runs c (f ⟨⟩) Q) -∗ runs c (await16 A (recvIx r) o h w >>= f) Q) := by
  subst hA
  unfold await16
  simp only [Prog.lift, Prog.bind_op, Prog.bind_ret]
  exact wp_land m ρ K c a r (n := (cm16 o h).view.dmaCredit) (wpE_waitDma2_eq 𝒱₀ (c : Thread nD τ) none Set.univ) hN hl

/-- A chunk relayed: it arrives, the half `b` of it is passed on, the whole widened. -/
theorem wp_relay (a a' : Fin 5) (A A' : DmaSems sig S8) (hA : A = semArr a) (hA' : A' = semArr a') (d : Dev nD) (hd : blockOf d ≠ blockOf c) (b b' : Fin 2)
    (hb : ∀ (q : PosShare TreeShare) (r : Fin 4) (f : Buf (Elt F) ((rowsM d r).view.loc (c : Thread nD τ))),
      held (F := F) c (rowsM d r) q f ⊢ iprop(held (F := F) c (halfM d r b) q f ∗ held (F := F) c (halfM d r b') q f))
    {p : Dev nD} (hp : p = peer a' c) (r : Fin 4) {o o' o'' : Fin 2 → ℕ} {h : InB32 o} {h' : InB16 o'} {h'' : InB32 o''}
    {w : (rect32 o h).WholeWords (EltTy.packing .bf16)} {w' : (rect16 o' h').WholeWords (EltTy.packing .bf16)}
    (ho' : o' = off16 d r b) (ho'' : o'' = off32 d r) (hN : (rowsM 0 0).view.dmaCredit = amt a) (hN' : (halfM 0 0 0).view.dmaCredit = amt a')
    (ha : arrived m ρ c r a ⊢ held (F := F) c (rowsM d r) fullShare (sumsG m ρ c))
    (ht : target (F := F) c r a' ⊢ free (F := F) (peer a' c) (halfM d r b))
    (h₁ : held (F := F) c (halfM d r b) fullShare.left (sumsG m ρ c) ⊢ sent m ρ c r a')
    (h₂ : held (F := F) (peer a' c) (halfM d r b) fullShare (sumsG m ρ c) ⊢ arrived m ρ (peer a' c) r a')
    {l : List Due} (hl : ∀ p ∈ ((peer a' c, some (a', r, true)) :: l : List Due), levelOf (some (a, r, true)) < levelOf p.2) {f : PUnit → BodyProg F α} {Q : α → sProp 𝕄} :
    iprop(World m ρ K ∗ issued (F := F) c a r ∗ unsent (F := F) c a' r ∗ freeOut (F := F) c d r ∗ due c ((peer a' c, some (a', r, true)) :: l))
      ⊢ iprop(((landed (F := F) c a r ∗ issued (F := F) c a' r ∗ kept m ρ c d r b' ∗ doneOut m ρ c d r ∗ due c l) -∗ runs c (f ⟨⟩) Q)
          -∗ runs c (await32 A (recvIx r) o h w >>= fun _ => push16 A' p r o' h' w' >>= fun _ => widen o'' h'' >>= f) Q) := by
  unfold kept
  iintro ⟨#HW, H1, H3, Ho, Hd⟩ Hk
  iapply (wp_await32 m ρ K c a A hA r hN hl) $$ [H1 Hd]
  · isplitr; · iexact HW
    isplitl [H1] <;> iassumption
  iintro ⟨Ha, H1, Hd⟩
  ihave Ha := ha $$ Ha
  ihave Ha := (shares c (rowsM d r) _).1 $$ Ha
  icases Ha with ⟨Hl, Hr⟩
  ihave Hl := (hb _ r _) $$ Hl
  icases Hl with ⟨Hl, Hl'⟩
  iapply (wp_push16 m ρ K c a' A' hA' hp d r b ho' hN' ht h₁ h₂) $$ [H3 Hl Hd]
  · isplitr; · iexact HW
    isplitl [H3]; · iexact H3
    isplitl [Hl]; · iexact Hl
    iexact Hd
  iintro ⟨H3, Hd⟩
  iapply (wp_widen m ρ c d hd r ho'' (q := fullShare.right)) $$ [Hr Ho]
  · isplitl [Hr] <;> iassumption
  iintro ⟨Hr, Ho⟩
  iapply Hk
  isplitl [H1]; · iexact H1
  isplitl [H3]; · iexact H3
  isplitl [Hr Hl']
  · isplitl [Hr] <;> iassumption
  isplitl [Ho] <;> iassumption

theorem wp_relayZ (r : Fin 4) {px : Dev nD} (hx : px = xp c) {l : List Due}
    (hl : ∀ p ∈ l, levelOf (some (1, r, true)) < levelOf p.2) {f : PUnit → BodyProg F α} {Q : α → sProp 𝕄} :
    iprop(World m ρ K ∗ chunk2 m ρ c r ∗ due c ((xp c, some (3, r, true)) :: l))
      ⊢ iprop(((chunk3 m ρ c r ∗ due c l) -∗ runs c (f ⟨⟩) Q) -∗ runs c (relayZ c r px >>= f) Q) := by
  unfold relayZ chunk2 chunk3
  simp only [Prog.bind_assoc]
  iintro ⟨#HW, ⟨H0, Ha, H1, H2, H3, H4, Ho, Hz, Hrest⟩, Hd⟩ Hk
  iapply (wp_relay m ρ K c 1 3 cc0_scratch4 cc0_scratch6 rfl rfl (zp c) (block_zp c) 0 1 (fun q r f => (halves c (zp c) r q f).1) hx r
    (off4_eq c r) (off5_eq c r) rfl rfl (Entails.of_eq rfl) (Entails.of_eq rfl) (Entails.of_eq rfl)
    (Entails.of_eq (by
      show _ = held (F := F) (xp c) (halfM (dg (xp c)) r 0) fullShare (sumsG m ρ (xp c))
      rw [dg_xp, sumsG_xp]; rfl))
    (l := l) (by
      intro p hp
      rcases List.mem_cons.mp hp with rfl | hp; · exact Nat.lt_succ_self 3
      exact hl p hp)) $$ [H1 H3 Hz Hd]
  · isplitr; · iexact HW
    isplitl [H1]; · iexact H1
    isplitl [H3]; · iexact H3
    isplitl [Hz]; · iexact Hz
    iexact Hd
  iintro ⟨H1, H3, Hk', Hz, Hd⟩
  iapply Hk
  isplitr [Hd]
  · isplitl [H0]; · iexact H0
    isplitl [Ha]; · iexact Ha
    isplitl [H1]; · iexact H1
    isplitl [H2]; · iexact H2
    isplitl [H3]; · iexact H3
    isplitl [H4]; · iexact H4
    isplitl [Hk']; · iexact Hk'
    isplitl [Ho]; · iexact Ho
    isplitl [Hz] <;> iassumption
  iexact Hd

theorem wp_relayX (r : Fin 4) {pz : Dev nD} (hz : pz = zp c) {l : List Due}
    (hl : ∀ p ∈ l, levelOf (some (2, r, true)) < levelOf p.2) {f : PUnit → BodyProg F α} {Q : α → sProp 𝕄} :
    iprop(World m ρ K ∗ chunk3 m ρ c r ∗ due c ((zp c, some (4, r, true)) :: l))
      ⊢ iprop(((chunk4 m ρ c r ∗ due c l) -∗ runs c (f ⟨⟩) Q) -∗ runs c (relayX c r pz >>= f) Q) := by
  unfold relayX chunk3 chunk4
  simp only [Prog.bind_assoc]
  iintro ⟨#HW, ⟨H0, Ha, H1, H2, H3, H4, Hkz, Ho, Hz, Hx, Hrest⟩, Hd⟩ Hk
  iapply (wp_relay m ρ K c 2 4 cc0_scratch5 cc0_scratch7 rfl rfl (xp c) (block_xp c) 1 0
    (fun q r f => ((halves c (xp c) r q f).1).trans sep_comm.1) hz r
    (off6_eq c r) (off7_eq c r) rfl rfl (Entails.of_eq rfl) (Entails.of_eq rfl) (Entails.of_eq rfl)
    (Entails.of_eq (by
      show _ = held (F := F) (zp c) (halfM (dg (zp c)) r 1) fullShare (sumsG m ρ (zp c))
      rw [dg_zp, sumsG_zp]; rfl))
    (l := l) (by
      intro p hp
      rcases List.mem_cons.mp hp with rfl | hp; · exact Nat.lt_succ_self 3
      exact hl p hp)) $$ [H2 H4 Hx Hd]
  · isplitr; · iexact HW
    isplitl [H2]; · iexact H2
    isplitl [H4]; · iexact H4
    isplitl [Hx]; · iexact Hx
    iexact Hd
  iintro ⟨H2, H4, Hkx, Hx, Hd⟩
  iapply Hk
  isplitr [Hd]
  · isplitl [H0]; · iexact H0
    isplitl [Ha]; · iexact Ha
    isplitl [H1]; · iexact H1
    isplitl [H2]; · iexact H2
    isplitl [H3]; · iexact H3
    isplitl [H4]; · iexact H4
    isplitl [Hkz]; · iexact Hkz
    isplitl [Hkx]; · iexact Hkx
    isplitl [Ho]; · iexact Ho
    isplitl [Hz]; · iexact Hz
    isplitl [Hx] <;> iassumption
  iexact Hd

theorem wp_corner (r : Fin 4) {f : PUnit → BodyProg F α} {Q : α → sProp 𝕄} :
    iprop(World m ρ K ∗ chunk4 m ρ c r ∗ due c [])
      ⊢ iprop(((chunk5 m ρ c r ∗ due c []) -∗ runs c (f ⟨⟩) Q) -∗ runs c (corner c r >>= f) Q) := by
  unfold corner chunk4 chunk5
  simp only [Prog.bind_assoc]
  iintro ⟨#HW, ⟨H0, Ha, H1, H2, H3, H4, Hkz, Hkx, Ho, Hz, Hx, Hg⟩, Hd⟩ Hk
  iapply (wp_await16 m ρ K c 3 cc0_scratch6 rfl r rfl (l := []) (fun p hp => nomatch hp)) $$ [H3 Hd]
  · isplitr; · iexact HW
    isplitl [H3] <;> iassumption
  iintro ⟨Hh0, H3, Hd⟩
  iapply (wp_await16 m ρ K c 4 cc0_scratch7 rfl r rfl (l := []) (fun p hp => nomatch hp)) $$ [H4 Hd]
  · isplitr; · iexact HW
    isplitl [H4] <;> iassumption
  iintro ⟨Hh1, H4, Hd⟩
  ihave Hh := (halves c (dg c) r fullShare (sumsG m ρ c)).2 $$ [Hh0 Hh1]
  · isplitl [Hh0]
    · iapply (Entails.of_eq (show arrived m ρ c r 3 = held (F := F) c (halfM (dg c) r 0) fullShare (sumsG m ρ c) from rfl)); iexact Hh0
    · iapply (Entails.of_eq (show arrived m ρ c r 4 = held (F := F) c (halfM (dg c) r 1) fullShare (sumsG m ρ c) from rfl)); iexact Hh1
  iapply (wp_widen m ρ c (dg c) (block_dg c) r (off8_eq c r)) $$ [Hh Hg]
  · isplitl [Hh] <;> iassumption
  iintro ⟨Hh, Hg⟩
  iapply Hk
  isplitr [Hd]
  · isplitl [H0]; · iexact H0
    isplitl [Ha]; · iexact Ha
    isplitl [H1]; · iexact H1
    isplitl [H2]; · iexact H2
    isplitl [H3]; · iexact H3
    isplitl [H4]; · iexact H4
    isplitl [Hkz]; · iexact Hkz
    isplitl [Hkx]; · iexact Hkx
    isplitl [Hh]; · iexact Hh
    isplitl [Ho]; · iexact Ho
    isplitl [Hz]; · iexact Hz
    isplitl [Hx] <;> iassumption
  iexact Hd

/-- Half a chunk sent and come back, beside what was kept: the whole chunk. -/
theorem kept_join (d : Dev nD) (r : Fin 4) (b b' : Fin 2)
    (hb : iprop(held (F := F) c (halfM d r b) fullShare.left (sumsG m ρ c) ∗ held (F := F) c (halfM d r b') fullShare.left (sumsG m ρ c))
      ⊢ held (F := F) c (rowsM d r) fullShare.left (sumsG m ρ c)) :
    iprop(held (F := F) c (halfM d r b) fullShare.left (sumsG m ρ c) ∗ kept m ρ c d r b') ⊢ held (F := F) c (rowsM d r) fullShare (sumsG m ρ c) := by
  unfold kept
  iintro ⟨Hs, Hr, Hl⟩
  iapply (shares c (rowsM d r) (sumsG m ρ c)).2
  isplitr [Hr]
  · iapply hb
    isplitl [Hs] <;> iassumption
  iexact Hr

theorem wp_drain (r : Fin 4) {f : PUnit → BodyProg F α} {Q : α → sProp 𝕄} :
    iprop(World m ρ K ∗ chunk5 m ρ c r ∗ due c [])
      ⊢ iprop(((chunk6 m ρ c r ∗ due c []) -∗ runs c (f ⟨⟩) Q) -∗ runs c (drain c r >>= f) Q) := by
  unfold drain await32 await16 chunk5 chunk6
  simp only [Prog.lift, Prog.bind_op, Prog.bind_ret]
  iintro ⟨#HW, ⟨H0, Ha, H1, H2, H3, H4, Hkz, Hkx, Hh, Hout⟩, Hd⟩ Hk
  iapply (wp_finish m ρ K c 0 r (n := (ypSl r).view.dmaCredit) (wpE_waitDma2_eq 𝒱₀ (c : Thread nD τ) none Set.univ) rfl) $$ [H0 Hd]
  · isplitr; · iexact HW
    isplitl [H0] <;> iassumption
  iintro ⟨Hs0, H0, Hd⟩
  iapply (wp_finish m ρ K c 1 r (n := (cm32 _ (k0_off3_inb c r)).view.dmaCredit) (wpE_waitDma2_eq 𝒱₀ (c : Thread nD τ) none Set.univ) rfl) $$ [H1 Hd]
  · isplitr; · iexact HW
    isplitl [H1] <;> iassumption
  iintro ⟨Hs1, H1, Hd⟩
  iapply (wp_finish m ρ K c 2 r (n := (cm32 _ (k0_off3_inb c r)).view.dmaCredit) (wpE_waitDma2_eq 𝒱₀ (c : Thread nD τ) none Set.univ) rfl) $$ [H2 Hd]
  · isplitr; · iexact HW
    isplitl [H2] <;> iassumption
  iintro ⟨Hs2, H2, Hd⟩
  iapply (wp_finish m ρ K c 3 r (n := (cm16 _ (k0_off4_inb c r)).view.dmaCredit) (wpE_waitDma2_eq 𝒱₀ (c : Thread nD τ) none Set.univ) rfl) $$ [H3 Hd]
  · isplitr; · iexact HW
    isplitl [H3] <;> iassumption
  iintro ⟨Hs3, H3, Hd⟩
  iapply (wp_finish m ρ K c 4 r (n := (cm16 _ (k0_off6_inb c r)).view.dmaCredit) (wpE_waitDma2_eq 𝒱₀ (c : Thread nD τ) none Set.univ) rfl) $$ [H4 Hd]
  · isplitr; · iexact HW
    isplitl [H4] <;> iassumption
  iintro ⟨Hs4, H4, Hd⟩
  iapply Hk
  isplitr [Hd]
  · isplitl [H0 H1 H2 H3 H4]
    · isplitl [H0]; · iexact H0
      isplitl [H1]; · iexact H1
      isplitl [H2]; · iexact H2
      isplitl [H3] <;> iassumption
    isplitl [Hs0]
    · iapply (Entails.of_eq (show sent m ρ c r 0 = held (F := F) c (ypSl r) fullShare (partG m ρ c) from rfl)); iexact Hs0
    isplitl [Ha]
    · iapply (Entails.of_eq (show arrived m ρ c r 0 = held (F := F) c (yrSl r) fullShare (partG m ρ (yp c)) from rfl)); iexact Ha
    isplitr [Hout]
    · isplitl [Hs1 Hs2]
      · iapply (shares c (rowsM c r) (sumsG m ρ c)).2
        isplitl [Hs1]
        · iapply (Entails.of_eq (show sent m ρ c r 1 = held (F := F) c (rowsM c r) fullShare.left (sumsG m ρ c) from rfl)); iexact Hs1
        · iapply (Entails.of_eq (show sent m ρ c r 2 = held (F := F) c (rowsM c r) fullShare.right (sumsG m ρ c) from rfl)); iexact Hs2
      isplitl [Hs3 Hkz]
      · iapply (kept_join m ρ c (zp c) r 0 1 (halves c (zp c) r _ _).2)
        isplitl [Hs3]
        · iapply (Entails.of_eq (show sent m ρ c r 3 = held (F := F) c (halfM (zp c) r 0) fullShare.left (sumsG m ρ c) from rfl)); iexact Hs3
        iexact Hkz
      isplitl [Hs4 Hkx]
      · iapply (kept_join m ρ c (xp c) r 1 0 (sep_comm.1.trans (halves c (xp c) r _ _).2))
        isplitl [Hs4]
        · iapply (Entails.of_eq (show sent m ρ c r 4 = held (F := F) c (halfM (xp c) r 1) fullShare.left (sumsG m ρ c) from rfl)); iexact Hs4
        iexact Hkx
      iexact Hh
    iexact Hout
  iexact Hd

end Cert.KernelIdeal.Mesh

end
-- ==== Proof.KernelIdeal.Entry.lean ====
/-
  The entry handshake, and the scratch buffers cut into chunks.
-/
module

public import proofs.«01_k».proof.Proof.KernelIdeal.Chunk

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ) (c : Dev nD)
variable {α : Type}

/-! ## Cutting the buffers -/

/-- The four devices whose blocks make up the result, as device `c` sees them. -/
def role : Fin 4 → Dev nD → Dev nD
  | 0, c => c | 1, c => zp c | 2, c => xp c | 3, c => dg c

theorem role_block (b : Fin 4) : ∃ i : Fin 4, blockOf (role i c) = b.val := by revert c b; decide
theorem role_inj {i j : Fin 4} (h : blockOf (role i c) = blockOf (role j c)) : i = j := by revert c i j; decide

/-- The indices of chunk `r` of device `d`'s block. -/
abbrev rowsSet (d : Dev nD) (r : Fin 4) : Finset S512x512.Idx := (rect32 (off32 d r) (off32_inb d r)).set

theorem rows_apart (p p' : Fin 4 × Fin 4) (h : p ≠ p') : Disjoint (rowsSet (role p.2 c) p.1) (rowsSet (role p'.2 c) p'.1) := by
  rw [Finset.disjoint_left]
  intro i
  rw [mem_rect32, mem_rect32]
  intro h1 h2
  have hb : blockOf (role p.2 c) = blockOf (role p'.2 c) := by unfold blockOf; omega
  have hr : p.1 = p'.1 := Fin.ext (by unfold blockOf at hb; omega)
  exact h (Prod.ext hr (role_inj c hb))
theorem rows_cover : (Finset.univ : Finset (Fin 4 × Fin 4)).biUnion (fun p => rowsSet (role p.2 c) p.1) = Finset.univ := by
  refine Finset.eq_univ_iff_forall.mpr fun i => Finset.mem_biUnion.mpr ?_
  have h0 : (i 0).val < 512 := (i 0).isLt
  obtain ⟨j, hj⟩ := role_block c ⟨(i 0).val / 128, by omega⟩
  refine ⟨(⟨(i 0).val / 32 % 4, by omega⟩, j), Finset.mem_univ _, ?_⟩
  rw [mem_rect32]
  have hj' : 2 * cx (role j c) + cz (role j c) = (i 0).val / 128 := hj
  show 256 * cx (role j c) + 128 * cz (role j c) + 32 * ((i 0).val / 32 % 4) ≤ _ ∧ _ < 256 * cx (role j c) + 128 * cz (role j c) + 32 * ((i 0).val / 32 % 4) + 32
  omega

theorem out_set (d : Dev nD) (r : Fin 4) : (outSl d r).view.set = rowsSet d r := View.set_slice_whole cc0_stg2_0 _

/-- The large buffer is its sixteen chunks; -/
theorem cut_sums (f : Buf (Elt F) (cmM.view.loc (c : Thread nD τ))) :
    (cmM.view.loc (c : Thread nD τ) ↦{fullShare} f : sProp 𝕄) = bigSep Finset.univ fun r : Fin 4 =>
      iprop(held (F := F) c (rowsM c r) fullShare f ∗ held (F := F) c (rowsM (zp c) r) fullShare f ∗ held (F := F) c (rowsM (xp c) r) fullShare f
        ∗ held (F := F) c (rowsM (dg c) r) fullShare f) := by
  have h := pointsTo_biUnion (Ix := Unit) (Name := ℕ) (U := UU) (Lvl := ℕ) (Val := Elt F) (ℓ := cmM.view.loc (c : Thread nD τ)) (q := fullShare) (f := f)
    Finset.univ (fun p : Fin 4 × Fin 4 => rowsSet (role p.2 c) p.1) (fun p _ p' _ h => rows_apart c p p' h)
  rw [rows_cover, bigSep_univ_prod] at h
  refine h.trans (bigSep_congr fun r _ => (bigSep_four _).trans ?_)
  unfold held; rw [rows_set, rows_set, rows_set, rows_set]; rfl
/-- so is the result. -/
theorem cut_out (f : Buf (Elt F) (outM.view.loc (c : Thread nD τ))) :
    (outM.view.loc (c : Thread nD τ) ↦{fullShare} f : sProp 𝕄) = bigSep Finset.univ fun r : Fin 4 =>
      iprop(held (F := F) c (outSl c r) fullShare f ∗ held (F := F) c (outSl (zp c) r) fullShare f ∗ held (F := F) c (outSl (xp c) r) fullShare f
        ∗ held (F := F) c (outSl (dg c) r) fullShare f) := by
  have h := pointsTo_biUnion (Ix := Unit) (Name := ℕ) (U := UU) (Lvl := ℕ) (Val := Elt F) (ℓ := outM.view.loc (c : Thread nD τ)) (q := fullShare) (f := f)
    Finset.univ (fun p : Fin 4 × Fin 4 => rowsSet (role p.2 c) p.1) (fun p _ p' _ h => rows_apart c p p' h)
  rw [rows_cover, bigSep_univ_prod] at h
  refine h.trans (bigSep_congr fun r _ => (bigSep_four _).trans ?_)
  unfold held; rw [out_set, out_set, out_set, out_set]; rfl

theorem mem_yRect (r : Fin 4) (i : S128x512.Idx) : i ∈ (yRect r).set ↔ 32 * r.val ≤ (i 0).val ∧ (i 0).val < 32 * r.val + 32 := by
  have h1 : (i 1).val < 512 := (i 1).isLt
  rw [Rect.mem_set_unit, Fin.forall_fin_two]
  exact ⟨fun h => h.1, fun h => ⟨h, Nat.zero_le _, h1.trans_eq (Nat.zero_add 512).symm⟩⟩
theorem y_apart (r r' : Fin 4) (h : r ≠ r') : Disjoint (yRect r).set (yRect r').set := by
  rw [Finset.disjoint_left]
  intro i
  rw [mem_yRect, mem_yRect]
  intro h1 h2
  exact h (Fin.ext (by omega))
theorem y_cover : (Finset.univ : Finset (Fin 4)).biUnion (fun r => (yRect r).set) = Finset.univ := by
  refine Finset.eq_univ_iff_forall.mpr fun i => Finset.mem_biUnion.mpr ?_
  have h0 : (i 0).val < 128 := (i 0).isLt
  refine ⟨⟨(i 0).val / 32, by omega⟩, Finset.mem_univ _, ?_⟩
  rw [mem_yRect]
  show 32 * ((i 0).val / 32) ≤ _ ∧ _ < 32 * ((i 0).val / 32) + 32
  omega
theorem yp_set (r : Fin 4) : (ypSl r).view.set = (yRect r).set := View.set_slice_whole cc0_scratch0 _
theorem yr_set (r : Fin 4) : (yrSl r).view.set = (yRect r).set := View.set_slice_whole cc0_scratch1 _

/-- The buffer of rounded partial products is its four chunks; -/
theorem cut_yp (f : Buf (Elt F) (ypM.view.loc (c : Thread nD τ))) :
    (ypM.view.loc (c : Thread nD τ) ↦{fullShare} f : sProp 𝕄) = bigSep Finset.univ fun r : Fin 4 => held (F := F) c (ypSl r) fullShare f := by
  have h := pointsTo_biUnion (Ix := Unit) (Name := ℕ) (U := UU) (Lvl := ℕ) (Val := Elt F) (ℓ := ypM.view.loc (c : Thread nD τ)) (q := fullShare) (f := f)
    Finset.univ (fun r : Fin 4 => (yRect r).set) (fun p _ p' _ h => y_apart p p' h)
  rw [y_cover] at h
  exact h.trans (bigSep_congr fun r _ => by unfold held; rw [yp_set])
/-- so is the buffer of those received. -/
theorem cut_yr (f : Buf (Elt F) (yrM.view.loc (c : Thread nD τ))) :
    (yrM.view.loc (c : Thread nD τ) ↦{fullShare} f : sProp 𝕄) = bigSep Finset.univ fun r : Fin 4 => held (F := F) c (yrSl r) fullShare f := by
  have h := pointsTo_biUnion (Ix := Unit) (Name := ℕ) (U := UU) (Lvl := ℕ) (Val := Elt F) (ℓ := yrM.view.loc (c : Thread nD τ)) (q := fullShare) (f := f)
    Finset.univ (fun r : Fin 4 => (yRect r).set) (fun p _ p' _ h => y_apart p p' h)
  rw [y_cover] at h
  exact h.trans (bigSep_congr fun r _ => by unfold held; rw [yr_set])

/-! ## The handshake -/

/-- One signal to a neighbour's barrier, the rows it may write handed over with it. -/
theorem wp_knock (d : Fin 3) {p : Dev nD} (hp : p = nbr d c) {l : List Due} {f : PUnit → BodyProg F α} {Q : α → sProp 𝕄} :
    iprop(World m ρ K ∗ dutyTok ER (barC (nbr d c)) 0 d ∗ handed (F := F) (nbr d c) d ∗ due c ((nbr d c, none) :: l))
      ⊢ iprop((due c l -∗ runs c (f ⟨⟩) Q) -∗ runs c (semSignalWord p barS 1#32 >>= f) Q) := by
  subst hp
  unfold due
  simp only [semSignalWord, Prog.bind_op, Prog.bind_ret]
  iintro ⟨#HW, Ht, Hh, ⟨%W, HO⟩⟩ Hk
  ihave #H := (World_cell m ρ K (nbr d c) none) $$ HW
  icases H with ⟨#HI, #HR⟩
  iapply (Rounds.wp_signal 𝒱₀ ER (sched m ρ) (c : Thread nD τ) none (dst := (nbr d c : Thread nD τ)) (κ := K (nbr d c, none))
      (d := d) (by rw [show ((nbr d c : Thread nD τ), SemLoc.reg barS) = cell (nbr d c) none from rfl, duties_cell]; exact Finset.mem_univ _)
      ((amount_cell m ρ (nbr d c) none d).trans (by decide)) () (tallies l) rfl) $$ [Ht Hh HO]
  · isplitr; · iexact HI
    isplitl [HO]; · iexact HO
    isplitl [Ht]; · iexact Ht
    isplitl [Hh]; ·
      iapply (Entails.of_eq (show handed (F := F) (nbr d c) d = (sched m ρ).payload ((nbr d c : Thread nD τ), SemLoc.reg barS) 0 d from
        (payload_cell m ρ (nbr d c) none d).symm))
      iexact Hh
    iexact HR
  iintro HO
  iapply Hk
  iexists _; iexact HO

/-- A device's barrier cell: its position, the three units it will be credited with, the tokens of the three signals the
    device sends. -/
def gate : sProp 𝕄 :=
  iprop(atPos ER (barC c) 0 ∅ 0 ∗ cred (tallyAt (barC c) () 3)
    ∗ dutyTok ER (barC (nbr 0 c)) 0 0 ∗ dutyTok ER (barC (nbr 1 c)) 0 1 ∗ dutyTok ER (barC (nbr 2 c)) 0 2)

theorem wp_entry {py pz px : Dev nD} (hy : py = yp c) (hz : pz = zp c) (hx : px = xp c) {l : List Due} (hl : ∀ p ∈ l, 1 < levelOf p.2)
    {f : PUnit → BodyProg F α} {Q : α → sProp 𝕄} :
    iprop(World m ρ K ∗ gate (F := F) c ∗ (handed (F := F) (yp c) 0 ∗ handed (F := F) (zp c) 1 ∗ handed (F := F) (xp c) 2)
        ∗ due c ((yp c, none) :: (zp c, none) :: (xp c, none) :: l))
      ⊢ iprop((((handed (F := F) c 0 ∗ handed (F := F) c 1 ∗ handed (F := F) c 2) ∗ semVal (barC c) 0 ∗ due c l) -∗ runs c (f ⟨⟩) Q)
          -∗ runs c (entry py pz px >>= f) Q) := by
  unfold entry gate
  simp only [Prog.bind_assoc]
  iintro ⟨#HW, ⟨Hat, Hcr, Ht0, Ht1, Ht2⟩, ⟨Hh0, Hh1, Hh2⟩, Hd⟩ Hk
  iapply (wp_knock m ρ K c 0 hy) $$ [Ht0 Hh0 Hd]
  · isplitr; · iexact HW
    isplitl [Ht0]; · iexact Ht0
    isplitl [Hh0]; · iexact Hh0
    iexact Hd
  iintro Hd
  iapply (wp_knock m ρ K c 1 hz) $$ [Ht1 Hh1 Hd]
  · isplitr; · iexact HW
    isplitl [Ht1]; · iexact Ht1
    isplitl [Hh1]; · iexact Hh1
    iexact Hd
  iintro Hd
  iapply (wp_knock m ρ K c 2 hx) $$ [Ht2 Hh2 Hd]
  · isplitr; · iexact HW
    isplitl [Ht2]; · iexact Ht2
    isplitl [Hh2]; · iexact Hh2
    iexact Hd
  unfold due
  simp only [semWaitWord, Prog.bind_op, Prog.bind_ret]
  iintro ⟨%W, HO⟩
  ihave #H := (World_cell m ρ K c none) $$ HW
  icases H with ⟨#HI, -⟩
  ihave #HL := (World_levels m ρ K) $$ HW
  iapply (Rounds.wp_wait_rest_token 𝒱₀ ER (sched m ρ) (c : Thread nD τ) none (κ := K (c, none))
      (wpE_semWait_eq 𝒱₀ (c : Thread nD τ) none Set.univ) (Set.mem_univ _) () (O := tallies l) (W := W) (R := 0) (m := 0) (T := ∅)
      (by rw [show ((c : Thread nD τ), SemLoc.reg barS) = barC c from rfl, expect_bar]; decide)) $$ [Hcr HO Hat]
  · isplitr; · iexact HI
    isplitl [Hcr]; · iexact Hcr
    isplitl [HO]; · iexact HO
    isplitr
    · iapply (mayWait_of_level (F := F) c (.reg barS) 1 (by rw [show SemLoc.reg barS = csem none from rfl, cellIx_csem]; exact le_rfl) l hl)
      iexact HL
    iexact Hat
  iintro ⟨HO, Hat, -, Hpay⟩
  ihave Hp := (Entails.of_eq (show bigSep ((sched (F := F) m ρ).duties ((c : Thread nD τ), SemLoc.reg barS) 0 \ ∅)
      (fun d => (sched (F := F) m ρ).payload ((c : Thread nD τ), SemLoc.reg barS) 0 d) = _ from rest_bar m ρ c)) $$ Hpay
  imod (Rounds.cell_close ER (sched m ρ) (Set.mem_univ (K (c, none))) (fun h => h) (R := 0 + 1) (duties_later m ρ (barC c))) $$ [Hat] with Hz
  · isplitr; · iexact HI
    iexact Hat
  iapply Hk
  isplitl [Hp]; · iexact Hp
  isplitl [Hz]; · iexact Hz
  iexists _; iexact HO

/-! ## From whole buffers to chunks -/

/-- A copy's tokens, without the rows it writes. -/
def ready (a : Fin 5) (r : Fin 4) : sProp 𝕄 :=
  iprop(dutyTok ER (sendC a r c) 0 0 ∗ dutyTok ER (recvC a r (peer a c)) 0 0
    ∗ atPos ER (sendC a r c) 0 ∅ 0 ∗ atPos ER (recvC a r c) 0 ∅ 0 ∗ cred (tallyAt (recvC a r c) () (amt a)))

theorem unsent_of_ready (a : Fin 5) (r : Fin 4) : iprop(ready (F := F) c a r ∗ target (F := F) c r a) ⊢ unsent (F := F) c a r := by
  unfold ready unsent
  iintro ⟨⟨H1, H2, H3, H4, H5⟩, Ht⟩
  isplitl [H1]; · iexact H1
  isplitl [H2]; · iexact H2
  isplitl [Ht]; · iexact Ht
  isplitl [H3]; · iexact H3
  isplitl [H4] <;> iassumption

/-- The rows of a chunk the device keeps to itself. -/
def mine (r : Fin 4) : sProp 𝕄 :=
  iprop(free (F := F) c (ypSl r) ∗ free (F := F) c (rowsM c r) ∗ freeOut (F := F) c c r
    ∗ freeOut (F := F) c (zp c) r ∗ freeOut (F := F) c (xp c) r ∗ freeOut (F := F) c (dg c) r)

theorem chunk0_intro (r : Fin 4) :
    iprop((bigSep Finset.univ fun a : Fin 5 => ready (F := F) c a r) ∗ target (F := F) c r 0 ∗ (target (F := F) c r 1 ∗ target (F := F) c r 4)
        ∗ (target (F := F) c r 2 ∗ target (F := F) c r 3) ∗ mine (F := F) c r) ⊢ chunk0 (F := F) c r := by
  rw [bigSep_five]
  unfold chunk0 mine
  iintro ⟨⟨H0, H1, H2, H3, H4⟩, T0, ⟨T1, T4⟩, ⟨T2, T3⟩, Hm⟩
  isplitl [H0 T0]; · iapply (unsent_of_ready (F := F) c 0 r); isplitl [H0] <;> iassumption
  isplitl [H1 T1]; · iapply (unsent_of_ready (F := F) c 1 r); isplitl [H1] <;> iassumption
  isplitl [H2 T2]; · iapply (unsent_of_ready (F := F) c 2 r); isplitl [H2] <;> iassumption
  isplitl [H3 T3]; · iapply (unsent_of_ready (F := F) c 3 r); isplitl [H3] <;> iassumption
  isplitl [H4 T4]; · iapply (unsent_of_ready (F := F) c 4 r); isplitl [H4] <;> iassumption
  iexact Hm

/-- The three other buffers and the result's, whole, at some contents. -/
def buffers : sProp 𝕄 :=
  iprop((∃ f : Buf (Elt F) (ypM.view.loc (c : Thread nD τ)), ypM.view.loc (c : Thread nD τ) ↦{fullShare} f)
    ∗ (∃ f : Buf (Elt F) (yrM.view.loc (c : Thread nD τ)), yrM.view.loc (c : Thread nD τ) ↦{fullShare} f)
    ∗ (∃ f : Buf (Elt F) (cmM.view.loc (c : Thread nD τ)), cmM.view.loc (c : Thread nD τ) ↦{fullShare} f)
    ∗ (∃ f : Buf (Elt F) (outM.view.loc (c : Thread nD τ)), outM.view.loc (c : Thread nD τ) ↦{fullShare} f))

theorem free_intro {s : Shape} {e : EltTy} (M : Memref sig .tc .vmem s e) (f : Buf (Elt F) (M.view.loc (c : Thread nD τ))) :
    held (F := F) c M fullShare f ⊢ free (F := F) c M := by
  iintro H; iexists f; iexact H

theorem target_y (r : Fin 4) : free (F := F) c (yrSl r) ⊢ target (F := F) (yp c) r 0 :=
  Entails.of_eq (by show _ = free (F := F) (yp (yp c)) (yrSl r); rw [yp_yp])
theorem target_z (r : Fin 4) : free (F := F) c (rowsM (zp c) r) ⊢ target (F := F) (zp c) r 1 :=
  Entails.of_eq (by show _ = free (F := F) (zp (zp c)) (rowsM (zp c) r); rw [zp_zp])
theorem target_x (r : Fin 4) : free (F := F) c (rowsM (xp c) r) ⊢ target (F := F) (xp c) r 2 :=
  Entails.of_eq (by show _ = free (F := F) (xp (xp c)) (rowsM (xp c) r); rw [xp_xp])
theorem zp_xp (c : Dev nD) : zp (xp c) = dg c := by revert c; decide
theorem target_fx (r : Fin 4) : free (F := F) c (halfM (dg c) r 0) ⊢ target (F := F) (xp c) r 3 :=
  Entails.of_eq (by show _ = free (F := F) (xp (xp c)) (halfM (zp (xp c)) r 0); rw [xp_xp, zp_xp])
theorem target_fz (r : Fin 4) : free (F := F) c (halfM (dg c) r 1) ⊢ target (F := F) (zp c) r 4 :=
  Entails.of_eq (by show _ = free (F := F) (zp (zp c)) (halfM (xp (zp c)) r 1); rw [zp_zp]; rfl)

/-- The buffers cut up: what the neighbours are handed, and what is kept. -/
theorem buffers_cut : buffers (F := F) c
    ⊢ iprop((handed (F := F) (yp c) 0 ∗ handed (F := F) (zp c) 1 ∗ handed (F := F) (xp c) 2) ∗ bigSep Finset.univ fun r : Fin 4 => mine (F := F) c r) := by
  have hp : ∀ fp fr fc fo, iprop((ypM.view.loc (c : Thread nD τ) ↦{fullShare} fp) ∗ (yrM.view.loc (c : Thread nD τ) ↦{fullShare} fr)
        ∗ (cmM.view.loc (c : Thread nD τ) ↦{fullShare} fc) ∗ (outM.view.loc (c : Thread nD τ) ↦{fullShare} fo))
      ⊢ (bigSep Finset.univ fun r : Fin 4 => iprop(target (F := F) (yp c) r 0 ∗ (target (F := F) (zp c) r 1 ∗ target (F := F) (zp c) r 4)
          ∗ (target (F := F) (xp c) r 2 ∗ target (F := F) (xp c) r 3) ∗ mine (F := F) c r) : sProp 𝕄) := by
    intro fp fr fc fo
    rw [cut_yp, cut_yr, cut_sums, cut_out, ← bigSep_sep', ← bigSep_sep', ← bigSep_sep']
    refine bigSep_mono fun r _ => ?_
    unfold mine
    show (_ : sProp 𝕄) ⊢ _
    iintro ⟨Hp, Hr, ⟨Hc, Hz, Hx, Hg⟩, ⟨Oc, Oz, Ox, Og⟩⟩
    ihave Hg := (halves c (dg c) r fullShare fc).1 $$ Hg
    icases Hg with ⟨Hg0, Hg1⟩
    isplitl [Hr]; · iapply ((free_intro c (yrSl r) fr).trans (target_y (F := F) c r)); iexact Hr
    isplitl [Hz Hg1]
    · isplitl [Hz]; · iapply ((free_intro c (rowsM (zp c) r) fc).trans (target_z (F := F) c r)); iexact Hz
      iapply ((free_intro c (halfM (dg c) r 1) fc).trans (target_fz (F := F) c r)); iexact Hg1
    isplitl [Hx Hg0]
    · isplitl [Hx]; · iapply ((free_intro c (rowsM (xp c) r) fc).trans (target_x (F := F) c r)); iexact Hx
      iapply ((free_intro c (halfM (dg c) r 0) fc).trans (target_fx (F := F) c r)); iexact Hg0
    isplitl [Hp]; · iexists fp; iexact Hp
    isplitl [Hc]; · iexists fc; iexact Hc
    isplitl [Oc]; · iexists fo; iexact Oc
    isplitl [Oz]; · iexists fo; iexact Oz
    isplitl [Ox]; · iexists fo; iexact Ox
    iexists fo; iexact Og
  simp only [bigSep_sep'] at hp
  unfold buffers handed
  simp only [bigSep_sep']
  iintro ⟨⟨%fp, Hp⟩, ⟨%fr, Hr⟩, ⟨%fc, Hc⟩, ⟨%fo, Ho⟩⟩
  ihave H := (hp fp fr fc fo) $$ [Hp Hr Hc Ho]
  · isplitl [Hp]; · iexact Hp
    isplitl [Hr]; · iexact Hr
    isplitl [Hc] <;> iassumption
  icases H with ⟨H1, H2, H3, H4⟩
  isplitr [H4]
  · isplitl [H1]; · iexact H1
    isplitl [H2] <;> iassumption
  iexact H4

/-- The chunks before the first stage. -/
theorem chunks_intro :
    iprop((bigSep Finset.univ fun r : Fin 4 => bigSep Finset.univ fun a : Fin 5 => ready (F := F) c a r)
        ∗ (handed (F := F) c 0 ∗ handed (F := F) c 1 ∗ handed (F := F) c 2) ∗ bigSep Finset.univ fun r : Fin 4 => mine (F := F) c r)
      ⊢ bigSep Finset.univ fun r : Fin 4 => chunk0 (F := F) c r := by
  have h := bigSep_mono (s := Finset.univ) fun (r : Fin 4) _ => chunk0_intro (F := F) c r
  rw [bigSep_sep', bigSep_sep', bigSep_sep', bigSep_sep'] at h
  refine BI.Entails.trans ?_ h
  unfold handed
  simp only [bigSep_sep']
  show (_ : sProp 𝕄) ⊢ _
  iintro ⟨H1, ⟨H2, H3, H4⟩, H5⟩
  isplitl [H1]; · iexact H1
  isplitl [H2]; · iexact H2
  isplitl [H3]; · iexact H3
  isplitl [H4] <;> iassumption

/-- The chunks after the last stage: every copy over, the buffers whole again, the result in its own. -/
theorem chunks_elim : (bigSep Finset.univ fun r : Fin 4 => chunk6 m ρ c r)
    ⊢ iprop((bigSep Finset.univ fun r : Fin 4 => bigSep Finset.univ fun a : Fin 5 => over (F := F) c a r)
        ∗ (ypM.view.loc (c : Thread nD τ) ↦{fullShare} partG m ρ c) ∗ (yrM.view.loc (c : Thread nD τ) ↦{fullShare} partG m ρ (yp c))
        ∗ (cmM.view.loc (c : Thread nD τ) ↦{fullShare} sumsG m ρ c) ∗ (outM.view.loc (c : Thread nD τ) ↦{fullShare} outG m ρ c)) := by
  rw [cut_yp, cut_yr, cut_sums, cut_out, ← bigSep_sep', ← bigSep_sep', ← bigSep_sep', ← bigSep_sep']
  refine bigSep_mono fun r _ => ?_
  rw [bigSep_five]
  exact BI.Entails.refl _

end Cert.KernelIdeal.Mesh

end
-- ==== Proof.KernelIdeal.Body.lean ====
/-
  The body, stage after stage.
-/
module

public import proofs.«01_k».proof.Proof.KernelIdeal.Entry

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ) (c : Dev nD)
variable {α : Type}

/-! ## The program by stages -/

/-- A stage of all four chunks. -/
def each (p : Fin 4 → BodyProg F PUnit) : BodyProg F PUnit := do
  p 0
  p 1
  p 2
  p 3

/-- A chunk's two relays. -/
def relays (r : Fin 4) : BodyProg F PUnit := do
  relayZ c r (xp c)
  relayX c r (zp c)

theorem dev_y {n : ℕ} (h : n < nD) (e : n = (yp c).val) : (⟨n, h⟩ : Dev nD) = yp c := Fin.ext e
theorem dev_z {n : ℕ} (h : n < nD) (e : n = (zp c).val) : (⟨n, h⟩ : Dev nD) = zp c := Fin.ext e
theorem dev_x {n : ℕ} (h : n < nD) (e : n = (xp c).val) : (⟨n, h⟩ : Dev nD) = xp c := Fin.ext e

theorem stages_eq : (stages c : BodyProg F PUnit) = (do
    entry (yp c) (zp c) (xp c)
    each fun r => product c r (yp c)
    each fun r => combine c r (zp c) (xp c)
    each (relays c)
    each (corner c)
    each (drain c)) := by
  unfold stages each relays
  rw [dev_y c _ (k0_dev1_eq c), dev_z c _ (k0_dev2_eq c), dev_x c _ (k0_dev3_eq c),
    dev_y c _ (k0_dev4_eq c), dev_y c _ (k0_dev5_eq c), dev_y c _ (k0_dev6_eq c), dev_y c _ (k0_dev7_eq c),
    dev_z c _ (k0_dev8_eq c), dev_x c _ (k0_dev9_eq c), dev_z c _ (k0_dev10_eq c), dev_x c _ (k0_dev11_eq c),
    dev_z c _ (k0_dev12_eq c), dev_x c _ (k0_dev13_eq c), dev_z c _ (k0_dev14_eq c), dev_x c _ (k0_dev15_eq c),
    dev_x c _ (k0_dev16_eq c), dev_z c _ (k0_dev17_eq c), dev_x c _ (k0_dev18_eq c), dev_z c _ (k0_dev19_eq c),
    dev_x c _ (k0_dev20_eq c), dev_z c _ (k0_dev21_eq c), dev_x c _ (k0_dev22_eq c), dev_z c _ (k0_dev23_eq c)]
  simp only [Prog.bind_assoc]
  rw [show (fun (_ : PUnit) => (drain c 3 >>= fun _ => pure ⟨⟩ : BodyProg F PUnit)) = fun _ => drain c 3 from funext fun _ => Prog.bind_pure _]

/-! ## What is owed along the way -/

abbrev owedY (r : Fin 4) : List Due := [(yp c, some (0, r, true))]
abbrev owedZX (r : Fin 4) : List Due := [(zp c, some (1, r, true)), (xp c, some (2, r, true))]
abbrev owedR (r : Fin 4) : List Due := [(xp c, some (3, r, true)), (zp c, some (4, r, true))]
/-- The payments of the four chunks' stage, before those of `l`. -/
abbrev eachOwed (e : Fin 4 → List Due) (l : List Due) : List Due := e 0 ++ (e 1 ++ (e 2 ++ (e 3 ++ l)))
/-- Everything device `c` pays, in order. -/
def owedAll : List Due :=
  (yp c, none) :: (zp c, none) :: (xp c, none) :: eachOwed (owedY c) (eachOwed (owedZX c) (eachOwed (owedR c) []))

/-- Every payment of `l` is to a cell above level `n`. -/
def Above (n : ℕ) (l : List Due) : Prop := ∀ p ∈ l, n < levelOf p.2
theorem above_nil (n : ℕ) : Above n [] := fun p hp => nomatch hp
theorem above_cons {n : ℕ} {p : Due} {l : List Due} (h : n < levelOf p.2) (hl : Above n l) : Above n (p :: l) := by
  intro q hq
  rcases List.mem_cons.mp hq with rfl | hq
  · exact h
  · exact hl q hq
theorem above_append {n : ℕ} {l l' : List Due} (h : Above n l) (h' : Above n l') : Above n (l ++ l') := by
  intro q hq
  rcases List.mem_append.mp hq with hq | hq
  · exact h q hq
  · exact h' q hq
theorem above_each {n : ℕ} {e : Fin 4 → List Due} {l : List Due} (h : ∀ r, Above n (e r)) (hl : Above n l) : Above n (eachOwed e l) :=
  above_append (h 0) (above_append (h 1) (above_append (h 2) (above_append (h 3) hl)))

theorem above_Y {n : ℕ} (h : n < 2) (r : Fin 4) : Above n (owedY c r) := above_cons h (above_nil n)
theorem above_ZX {n : ℕ} (h : n < 3) (r : Fin 4) : Above n (owedZX c r) := above_cons h (above_cons h (above_nil n))
theorem above_R {n : ℕ} (h : n < 4) (r : Fin 4) : Above n (owedR c r) := above_cons h (above_cons h (above_nil n))

/-! ## Stage after stage -/

/-- A stage of the four chunks one after the other: each takes its chunk from `A` to `B`, pays `e r`, keeps `R`, and leaves
    to be paid a list of which `P` holds. -/
theorem wp_each (P : List Due → Prop) (R : sProp 𝕄) (A B : Fin 4 → sProp 𝕄) (p : Fin 4 → BodyProg F PUnit) (e : Fin 4 → List Due)
    (he : ∀ r l, P l → P (e r ++ l))
    (step : ∀ (r : Fin 4) (l : List Due) (f : PUnit → BodyProg F α) (Q : α → sProp 𝕄), P l →
      iprop(R ∗ A r ∗ due c (e r ++ l)) ⊢ iprop(((R ∗ B r ∗ due c l) -∗ runs c (f ⟨⟩) Q) -∗ runs c (p r >>= f) Q))
    {l : List Due} (hl : P l) {f : PUnit → BodyProg F α} {Q : α → sProp 𝕄} :
    iprop(R ∗ (bigSep Finset.univ A) ∗ due c (eachOwed e l))
      ⊢ iprop(((R ∗ (bigSep Finset.univ B) ∗ due c l) -∗ runs c (f ⟨⟩) Q) -∗ runs c (each p >>= f) Q) := by
  unfold each
  simp only [Prog.bind_assoc]
  rw [bigSep_four, bigSep_four]
  have h3 := he 3 l hl
  have h2 := he 2 _ h3
  have h1 := he 1 _ h2
  iintro ⟨HR, ⟨H0, H1, H2, H3⟩, Hd⟩ Hk
  iapply (step 0 _ _ Q h1) $$ [HR H0 Hd]
  · isplitl [HR]; · iexact HR
    isplitl [H0] <;> iassumption
  iintro ⟨HR, H0, Hd⟩
  iapply (step 1 _ _ Q h2) $$ [HR H1 Hd]
  · isplitl [HR]; · iexact HR
    isplitl [H1] <;> iassumption
  iintro ⟨HR, H1, Hd⟩
  iapply (step 2 _ _ Q h3) $$ [HR H2 Hd]
  · isplitl [HR]; · iexact HR
    isplitl [H2] <;> iassumption
  iintro ⟨HR, H2, Hd⟩
  iapply (step 3 _ _ Q hl) $$ [HR H3 Hd]
  · isplitl [HR]; · iexact HR
    isplitl [H3] <;> iassumption
  iintro ⟨HR, H3, Hd⟩
  iapply Hk
  isplitl [HR]; · iexact HR
  isplitr [Hd]
  · isplitl [H0]; · iexact H0
    isplitl [H1]; · iexact H1
    isplitl [H2] <;> iassumption
  iexact Hd

theorem step_product (r : Fin 4) (l : List Due) (f : PUnit → BodyProg F α) (Q : α → sProp 𝕄) :
    iprop((World m ρ K ∗ args m ρ c) ∗ chunk0 (F := F) c r ∗ due c (owedY c r ++ l))
      ⊢ iprop((((World m ρ K ∗ args m ρ c) ∗ chunk1 m ρ c r ∗ due c l) -∗ runs c (f ⟨⟩) Q) -∗ runs c (product c r (yp c) >>= f) Q) := by
  iintro ⟨⟨#HW, HA⟩, H, Hd⟩ Hk
  iapply (wp_product m ρ K c r rfl (l := l)) $$ [HA H Hd]
  · isplitr; · iexact HW
    isplitl [HA]; · iexact HA
    isplitl [H]; · iexact H
    iexact Hd
  iintro ⟨HA, H, Hd⟩
  iapply Hk
  isplitl [HA]
  · isplitr; · iexact HW
    iexact HA
  isplitl [H] <;> iassumption

theorem step_combine (r : Fin 4) (l : List Due) (f : PUnit → BodyProg F α) (Q : α → sProp 𝕄) (hl : Above 2 l) :
    iprop(World m ρ K ∗ chunk1 m ρ c r ∗ due c (owedZX c r ++ l))
      ⊢ iprop(((World m ρ K ∗ chunk2 m ρ c r ∗ due c l) -∗ runs c (f ⟨⟩) Q) -∗ runs c (combine c r (zp c) (xp c) >>= f) Q) := by
  iintro ⟨#HW, H, Hd⟩ Hk
  iapply (wp_combine m ρ K c r rfl rfl (l := l) hl) $$ [H Hd]
  · isplitr; · iexact HW
    isplitl [H]; · iexact H
    iexact Hd
  iintro H
  iapply Hk
  isplitr; · iexact HW
  iexact H

theorem step_relays (r : Fin 4) (l : List Due) (f : PUnit → BodyProg F α) (Q : α → sProp 𝕄) (hl : Above 3 l) :
    iprop(World m ρ K ∗ chunk2 m ρ c r ∗ due c (owedR c r ++ l))
      ⊢ iprop(((World m ρ K ∗ chunk4 m ρ c r ∗ due c l) -∗ runs c (f ⟨⟩) Q) -∗ runs c (relays c r >>= f) Q) := by
  unfold relays
  simp only [Prog.bind_assoc]
  iintro ⟨#HW, H, Hd⟩ Hk
  iapply (wp_relayZ m ρ K c r rfl (l := (zp c, some (4, r, true)) :: l) (above_cons (show 3 < 4 by decide) hl)) $$ [H Hd]
  · isplitr; · iexact HW
    isplitl [H]; · iexact H
    iexact Hd
  iintro ⟨H, Hd⟩
  iapply (wp_relayX m ρ K c r rfl (l := l) hl) $$ [H Hd]
  · isplitr; · iexact HW
    isplitl [H] <;> iassumption
  iintro H
  iapply Hk
  isplitr; · iexact HW
  iexact H

theorem step_corner (r : Fin 4) (l : List Due) (f : PUnit → BodyProg F α) (Q : α → sProp 𝕄) (hl : l = []) :
    iprop(World m ρ K ∗ chunk4 m ρ c r ∗ due c ([] ++ l))
      ⊢ iprop(((World m ρ K ∗ chunk5 m ρ c r ∗ due c l) -∗ runs c (f ⟨⟩) Q) -∗ runs c (corner c r >>= f) Q) := by
  subst hl
  rw [List.nil_append]
  iintro ⟨#HW, H, Hd⟩ Hk
  iapply (wp_corner m ρ K c r) $$ [H Hd]
  · isplitr; · iexact HW
    isplitl [H] <;> iassumption
  iintro H
  iapply Hk
  isplitr; · iexact HW
  iexact H

theorem step_drain (r : Fin 4) (l : List Due) (f : PUnit → BodyProg F α) (Q : α → sProp 𝕄) (hl : l = []) :
    iprop(World m ρ K ∗ chunk5 m ρ c r ∗ due c ([] ++ l))
      ⊢ iprop(((World m ρ K ∗ chunk6 m ρ c r ∗ due c l) -∗ runs c (f ⟨⟩) Q) -∗ runs c (drain c r >>= f) Q) := by
  subst hl
  rw [List.nil_append]
  iintro ⟨#HW, H, Hd⟩ Hk
  iapply (wp_drain m ρ K c r) $$ [H Hd]
  · isplitr; · iexact HW
    isplitl [H] <;> iassumption
  iintro H
  iapply Hk
  isplitr; · iexact HW
  iexact H

/-- What a device starts with beside the buffers: its barrier's tokens and its copies'. -/
def tokens : sProp 𝕄 :=
  iprop(gate (F := F) c ∗ bigSep Finset.univ fun r : Fin 4 => bigSep Finset.univ fun a : Fin 5 => ready (F := F) c a r)
/-- What it ends with: all its cells closed, the buffers filled. -/
def ended : sProp 𝕄 :=
  iprop(semVal (barC c) 0 ∗ (bigSep Finset.univ fun r : Fin 4 => bigSep Finset.univ fun a : Fin 5 => over (F := F) c a r)
    ∗ (ypM.view.loc (c : Thread nD τ) ↦{fullShare} partG m ρ c) ∗ (yrM.view.loc (c : Thread nD τ) ↦{fullShare} partG m ρ (yp c))
    ∗ (cmM.view.loc (c : Thread nD τ) ↦{fullShare} sumsG m ρ c) ∗ (outM.view.loc (c : Thread nD τ) ↦{fullShare} outG m ρ c))

theorem wp_stages (f : PUnit → BodyProg F α) (Q : α → sProp 𝕄) :
    iprop(World m ρ K ∗ tokens (F := F) c ∗ buffers (F := F) c ∗ args m ρ c ∗ due c (owedAll c))
      ⊢ iprop(((args m ρ c ∗ ended m ρ c ∗ due c []) -∗ runs c (f ⟨⟩) Q) -∗ runs c (stages c >>= f) Q) := by
  rw [stages_eq]
  unfold tokens ended owedAll
  simp only [Prog.bind_assoc]
  have hR : ∀ n, n < 4 → Above n (eachOwed (owedR c) []) := fun n h => above_each (above_R c h) (above_nil n)
  have hZ : ∀ n, n < 3 → Above n (eachOwed (owedZX c) (eachOwed (owedR c) [])) := fun n h => above_each (above_ZX c h) (hR n (by omega))
  have hY : ∀ n, n < 2 → Above n (eachOwed (owedY c) (eachOwed (owedZX c) (eachOwed (owedR c) []))) := fun n h => above_each (above_Y c h) (hZ n (by omega))
  iintro ⟨#HW, ⟨Hg, Ht⟩, Hb, HA, Hd⟩ Hk
  ihave Hb := (buffers_cut (F := F) c) $$ Hb
  icases Hb with ⟨Hh, Hm⟩
  iapply (wp_entry m ρ K c rfl rfl rfl (hY 1 (by decide))) $$ [Hg Hh Hd]
  · isplitr; · iexact HW
    isplitl [Hg]; · iexact Hg
    isplitl [Hh]; · iexact Hh
    iexact Hd
  iintro ⟨Hh, Hz, Hd⟩
  ihave Hc := (chunks_intro (F := F) c) $$ [Ht Hh Hm]
  · isplitl [Ht]; · iexact Ht
    isplitl [Hh] <;> iassumption
  iapply (wp_each c (Above 1) iprop(World m ρ K ∗ args m ρ c) (fun r => chunk0 (F := F) c r) (fun r => chunk1 m ρ c r) (fun r => product c r (yp c)) (owedY c)
    (fun r l => above_append (above_Y c (by decide) r)) (fun r l f Q _ => step_product m ρ K c r l f Q) (hZ 1 (by decide))) $$ [HA Hc Hd]
  · isplitl [HA]
    · isplitr; · iexact HW
      iexact HA
    isplitl [Hc]; · iexact Hc
    iexact Hd
  iintro ⟨⟨-, HA⟩, Hc, Hd⟩
  iapply (wp_each c (Above 2) (World m ρ K) (fun r => chunk1 m ρ c r) (fun r => chunk2 m ρ c r) (fun r => combine c r (zp c) (xp c)) (owedZX c)
    (fun r l => above_append (above_ZX c (by decide) r)) (step_combine m ρ K c) (hR 2 (by decide))) $$ [Hc Hd]
  · isplitr; · iexact HW
    isplitl [Hc]; · iexact Hc
    iexact Hd
  iintro ⟨-, Hc, Hd⟩
  iapply (wp_each c (Above 3) (World m ρ K) (fun r => chunk2 m ρ c r) (fun r => chunk4 m ρ c r) (relays c) (owedR c)
    (fun r l => above_append (above_R c (by decide) r)) (step_relays m ρ K c) (above_nil 3)) $$ [Hc Hd]
  · isplitr; · iexact HW
    isplitl [Hc]; · iexact Hc
    iexact Hd
  iintro ⟨-, Hc, Hd⟩
  iapply (wp_each c (fun l => l = []) (World m ρ K) (fun r => chunk4 m ρ c r) (fun r => chunk5 m ρ c r) (corner c) (fun _ => [])
    (fun _ _ h => h) (step_corner m ρ K c) rfl) $$ [Hc Hd]
  · isplitr; · iexact HW
    isplitl [Hc]; · iexact Hc
    iexact Hd
  iintro ⟨-, Hc, Hd⟩
  iapply (wp_each c (fun l => l = []) (World m ρ K) (fun r => chunk5 m ρ c r) (fun r => chunk6 m ρ c r) (drain c) (fun _ => [])
    (fun _ _ h => h) (step_drain m ρ K c) rfl) $$ [Hc Hd]
  · isplitr; · iexact HW
    isplitl [Hc]; · iexact Hc
    iexact Hd
  iintro ⟨-, Hc, Hd⟩
  ihave Hc := (chunks_elim m ρ c) $$ Hc
  iapply Hk
  isplitl [HA]; · iexact HA
  isplitr [Hd]
  · isplitl [Hz] <;> iassumption
  iexact Hd

end Cert.KernelIdeal.Mesh

end
-- ==== Proof.KernelIdeal.Deal.lean ====
/-
  What the launch deals: the duty tokens, each to the device that pays the duty, and the credits, each to the device that
  waits for it.
-/
module

public import proofs.«01_k».proof.Proof.KernelIdeal.Body

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Families over the cells -/

/-- The copies' cells by chunk and kind. -/
theorem by_chunk (Φ : Fin 5 × Fin 4 × Bool → sProp 𝕄) :
    bigSep Finset.univ Φ = bigSep Finset.univ fun r : Fin 4 => bigSep Finset.univ fun a : Fin 5 => iprop(Φ (a, r, false) ∗ Φ (a, r, true)) := by
  rw [bigSep_univ_prod, bigSep_univ_comm (fun (r : Fin 4) (a : Fin 5) => iprop(Φ (a, r, false) ∗ Φ (a, r, true)))]
  exact bigSep_congr fun a _ => (bigSep_univ_prod _).trans (bigSep_congr fun r _ => bigSep_two _)

/-- All cells: the barrier and the copies' cells. -/
theorem by_cell (Φ : CellIx → sProp 𝕄) : bigSep Finset.univ Φ = iprop(Φ none ∗ bigSep Finset.univ fun k => Φ (some k)) := by
  rw [bigSep_univ_equiv (Equiv.optionEquivSumPUnit.{0, 0} (Fin 5 × Fin 4 × Bool)).symm Φ, bigSep_univ_sum]
  have h1 : (bigSep Finset.univ fun u : PUnit.{1} => Φ ((Equiv.optionEquivSumPUnit.{0, 0} (Fin 5 × Fin 4 × Bool)).symm (.inr u))) = Φ none :=
    bigSep_singleton
  rw [h1]
  refine BI.Entails.antisymm (show iprop((bigSep Finset.univ fun k => Φ (some k)) ∗ Φ none) ⊢ iprop(Φ none ∗ bigSep Finset.univ fun k => Φ (some k)) from ?_)
    (show iprop(Φ none ∗ bigSep Finset.univ fun k => Φ (some k)) ⊢ iprop((bigSep Finset.univ fun k => Φ (some k)) ∗ Φ none) from ?_)
  · iintro ⟨H1, H2⟩
    isplitl [H2]
    · iexact H2
    · iexact H1
  · iintro ⟨H1, H2⟩
    isplitl [H2]
    · iexact H2
    · iexact H1

/-- A family over devices and some index, dealt around: index by index to the device an involution says. -/
theorem deal {I : Type} [Fintype I] (Φ : Dev nD → I → sProp 𝕄) (e : I → Dev nD → Dev nD) (he : ∀ i c, e i (e i c) = c) :
    (bigSep Finset.univ fun c => bigSep Finset.univ fun i => Φ c i) = bigSep Finset.univ fun c => bigSep Finset.univ fun i => Φ (e i c) i := by
  rw [bigSep_univ_comm, bigSep_univ_comm (fun c i => Φ (e i c) i)]
  exact bigSep_congr fun i _ => bigSep_univ_equiv (Function.Involutive.toPerm (e i) (he i)) fun c => Φ c i

/-! ## The tokens -/

/-- The device that pays a copy's cell: a sending cell its own device, an arrival cell the one at the other end. -/
def payer (k : Fin 5 × Fin 4 × Bool) (c : Dev nD) : Dev nD := if k.2.2 then peer k.1 c else c
theorem payer_payer (k : Fin 5 × Fin 4 × Bool) (c : Dev nD) : payer k (payer k c) = c := by
  unfold payer
  cases k.2.2
  · rfl
  · exact peer_peer k.1 c

/-- The duties of a device's cells: three of its barrier, one of each copy's cell. -/
abbrev DutyIx : Type := Fin 3 ⊕ Fin 5 × Fin 4 × Bool
def tokOf (p : Dev nD × DutyIx) : GSem nD τ sig × ℕ × Fin 3 := match p.2 with
  | .inl d => (barC p.1, 0, d)
  | .inr k => (cell p.1 (some k), 0, 0)

theorem cell_injective : Function.Injective fun p : Dev nD × CellIx => cell p.1 p.2 := by
  rintro ⟨c, k⟩ ⟨c', k'⟩ h
  have h1 : c = c' := congrArg (fun g : GSem nD τ sig => g.1.1) h
  have h2 : k = k' := csem_injective (congrArg Prod.snd h)
  rw [h1, h2]
theorem tokOf_injective : Function.Injective tokOf := by
  rintro ⟨c, j⟩ ⟨c', j'⟩ h
  have hc : ∀ k k', cell c k = cell c' k' → (c, k) = (c', k') := fun k k' e => cell_injective (a₁ := (c, k)) (a₂ := (c', k')) e
  match j, j' with
  | .inl d, .inl d' =>
    have h1 := congrArg Prod.fst (hc none none (congrArg Prod.fst h))
    have h2 : d = d' := congrArg (fun x => x.2.2) h
    rw [h2]; exact Prod.ext h1 rfl
  | .inl d, .inr k => exact absurd (congrArg Prod.snd (hc none (some k) (congrArg Prod.fst h))) (by simp)
  | .inr k, .inl d => exact absurd (congrArg Prod.snd (hc (some k) none (congrArg Prod.fst h))) (by simp)
  | .inr k, .inr k' =>
    have h1 := hc (some k) (some k') (congrArg Prod.fst h)
    have h2 : k = k' := Option.some.inj (congrArg Prod.snd h1)
    have h3 : c = c' := congrArg Prod.fst h1
    rw [h2, h3]

def meshCells : Finset (GSem nD τ sig) := Finset.univ.map ⟨fun p : Dev nD × CellIx => cell p.1 p.2, cell_injective⟩
def meshToks : Finset (GSem nD τ sig × ℕ × Fin 3) := Finset.univ.map ⟨tokOf, tokOf_injective⟩

/-- The tokens of device `c`'s own cells, as minted; -/
def minted (c : Dev nD) : sProp 𝕄 :=
  iprop((bigSep Finset.univ fun d : Fin 3 => dutyTok ER (barC c) 0 d) ∗ bigSep Finset.univ fun k => dutyTok ER (cell c (some k)) 0 0)
/-- the tokens device `c` pays with. -/
def dealt (c : Dev nD) : sProp 𝕄 :=
  iprop((bigSep Finset.univ fun d : Fin 3 => dutyTok ER (barC (nbr d c)) 0 d) ∗ bigSep Finset.univ fun k => dutyTok ER (cell (payer k c) (some k)) 0 0)

theorem minted_dealt : (bigSep Finset.univ fun c : Dev nD => (minted c : sProp 𝕄)) = bigSep Finset.univ fun c : Dev nD => dealt c := by
  unfold minted dealt
  rw [bigSep_sep', bigSep_sep', deal (fun c (d : Fin 3) => (dutyTok ER (barC c) 0 d : sProp 𝕄)) nbr nbr_nbr,
    deal (fun c k => (dutyTok ER (cell c (some k)) 0 0 : sProp 𝕄)) payer payer_payer]

theorem meshToks_eq : bigSep meshToks (fun x => (dutyTok ER x.1 x.2.1 x.2.2 : sProp 𝕄)) = bigSep Finset.univ fun c : Dev nD => minted c := by
  unfold meshToks
  rw [bigSep_map, bigSep_univ_prod]
  refine bigSep_congr fun c _ => ?_
  rw [bigSep_univ_sum]; rfl
theorem meshCells_eq (Φ : GSem nD τ sig → sProp 𝕄) :
    bigSep meshCells Φ = bigSep Finset.univ fun c : Dev nD => bigSep Finset.univ fun k : CellIx => Φ (cell c k) := by
  unfold meshCells; rw [bigSep_map, bigSep_univ_prod]; rfl

/-! ## The credits -/

/-- The payments to device `c`'s barrier and arrival cells. -/
def incoming (c : Dev nD) : List Due :=
  (c, none) :: (c, none) :: (c, none) :: (List.finRange 4).flatMap fun r => (List.finRange 5).map fun a => (c, some (a, r, true))

theorem tallies_eq_sum (l : List Due) : tallies l = (l.map fun p => (tallyAt (cell p.1 p.2) () (amountOf p.2) : CellTallies nD τ sig Unit)).sum := by
  induction l with
  | nil => rfl
  | cons p l ih => rw [List.map_cons, List.sum_cons, ← ih, add_comm]; rfl

/-- What all devices owe is what all devices wait for. -/
theorem owed_perm : ((List.finRange nD).flatMap owedAll).Perm ((List.finRange nD).flatMap incoming) := by decide +kernel

theorem owed_sum : (∑ d : Dev nD, tallies (owedAll d)) = ∑ d : Dev nD, tallies (incoming d) := by
  have h : ∀ f : Dev nD → List Due, (∑ d : Dev nD, tallies (f d)) = tallies ((List.finRange nD).flatMap f) := fun f => by
    rw [Fin.sum_univ_def, tallies_eq_sum, List.map_flatMap, List.flatMap_def, List.sum_flatten, List.map_map]
    exact congrArg List.sum (List.map_congr_left fun d _ => tallies_eq_sum (f d))
  rw [h, h, tallies_eq_sum, tallies_eq_sum]
  exact (owed_perm.map _).sum_eq

theorem tallies_incoming (c : Dev nD) :
    tallies (incoming c) = tallyAt (barC c) () 3 + ∑ r : Fin 4, ∑ a : Fin 5, (tallyAt (recvC a r c) () (amt a) : CellTallies nD τ sig Unit) := by
  have h : (tallyAt (barC c) () 3 : CellTallies nD τ sig Unit) = tallyAt (barC c) () 1 + (tallyAt (barC c) () 1 + tallyAt (barC c) () 1) := by
    rw [tallyAt_add, tallyAt_add]
  have h2 : (tallies ((List.finRange 4).flatMap fun r => (List.finRange 5).map fun a => (c, some (a, r, true))))
      = ∑ r : Fin 4, ∑ a : Fin 5, (tallyAt (recvC a r c) () (amt a) : CellTallies nD τ sig Unit) := by
    rw [tallies_eq_sum, List.map_flatMap, List.flatMap_def, List.sum_flatten, List.map_map, Fin.sum_univ_def]
    refine congrArg List.sum (List.map_congr_left fun r _ => ?_)
    rw [Fin.sum_univ_def, Function.comp, List.map_map]; rfl
  rw [h, ← h2, incoming]
  show ((tallies _ + tallyAt (barC c) () 1) + tallyAt (barC c) () 1) + tallyAt (barC c) () 1 = _
  rw [add_assoc, add_assoc, add_comm]

/-- Device `c`'s credits. -/
theorem credits (c : Dev nD) :
    (Pipeline.launchCred (fun d => tallies (owedAll d)) c : sProp 𝕄)
      = iprop(cred (tallyAt (barC c) () 3) ∗ bigSep Finset.univ fun r : Fin 4 => bigSep Finset.univ fun a : Fin 5 => cred (tallyAt (recvC a r c) () (amt a))) := by
  rw [Pipeline.launchCred_of_sum _ (fun d => tallies (incoming d)) owed_sum ?_ c, tallies_incoming]
  · refine (BI.Entails.antisymm (cred_add _ _).1 (cred_add _ _).2).trans ?_
    rw [Pipeline.cred_finsetSum]
    exact congrArg (fun R => iprop(cred (tallyAt (barC c) () 3) ∗ R)) (bigSep_congr fun r _ => Pipeline.cred_finsetSum _ _)
  · intro d g hg
    have : ∃ u, 0 < tallies (incoming d) g u := by
      by_contra hn
      exact hg (Finsupp.ext fun u => Nat.eq_zero_of_not_pos fun h => hn ⟨u, h⟩)
    obtain ⟨u, hu⟩ := this
    obtain ⟨p, hp, rfl⟩ := tallies_pos hu
    have h1 : p.1 = d := by
      simp only [incoming, List.mem_cons, List.mem_flatMap, List.mem_map] at hp
      rcases hp with rfl | rfl | rfl | ⟨r, -, a, -, rfl⟩ <;> rfl
    rw [h1]

end Cert.KernelIdeal.Mesh

end
-- ==== Proof.KernelIdeal.Launch.lean ====
/-
  The whole run: the body's obligation, the launch, and what the arrays hold at the end.
-/
module

public import proofs.«01_k».proof.Proof.KernelIdeal.Deal
public import Idealize.ShloMosaic.Lib.Pipeline.CollectiveSegs

@[expose] public section

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What device `c` owes at launch. -/
def O₀ (c : Dev nD) : CellTallies nD τ sig Unit := tallies (owedAll c)

/-- What the cells' records say, under the names `K`. -/
def records (K : Dev nD × CellIx → ℕ) : sProp 𝕄 :=
  bigSep Finset.univ fun p : Dev nD × CellIx => iprop(cellInv ER (sched m ρ) (K p) (cell p.1 p.2) ∗ reached ER (cell p.1 p.2) 0)
instance records_persistent (K : Dev nD × CellIx → ℕ) : BI.Persistent (records m ρ K) := by unfold records; infer_instance

/-- A device's scratch buffers at some contents. -/
def scratch (c : Dev nD) : sProp 𝕄 :=
  iprop((∃ f : Buf (Elt F) (ypM.view.loc (c : Thread nD τ)), ypM.view.loc (c : Thread nD τ) ↦{fullShare} f)
    ∗ (∃ f : Buf (Elt F) (yrM.view.loc (c : Thread nD τ)), yrM.view.loc (c : Thread nD τ) ↦{fullShare} f)
    ∗ (∃ f : Buf (Elt F) (cmM.view.loc (c : Thread nD τ)), cmM.view.loc (c : Thread nD τ) ↦{fullShare} f))

/-- What device `c`'s body starts from, beside the scratch buffers. -/
def start (c : Dev nD) : sProp 𝕄 := iprop((∃ K, World m ρ K) ∗ tokens (F := F) c)
/-- Before the body; -/
def Φ₀ (c : Dev nD) : sProp 𝕄 := iprop(start m ρ c ∗ scratch (F := F) c)
/-- after it: every semaphore at zero. -/
def Φ₁ (c : Dev nD) : sProp 𝕄 :=
  iprop(semVal (barC c) 0 ∗ (bigSep Finset.univ fun k => semVal (cell c (some k)) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => dyG m ρ c
    | ⟨1, _⟩ => wG m ρ c
    | ⟨2, _⟩ => outG m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-! ## The body's obligation -/

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at contents `X`. -/
abbrev stage (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(Φ₀ m ρ c ∗ (dats m ρ 0 c).owesAt () (t0_0 : Fin cfg0.N).castSucc
    ∗ (∃ d, stage c cc0_stg0_0 ((dats m ρ 0 c).before (0 : Fin 3) t0_0 d))
    ∗ (∃ d, stage c cc0_stg1_0 ((dats m ρ 0 c).before (1 : Fin 3) t0_0 d))
    ∗ (∃ d, stage c cc0_stg2_0 ((dats m ρ 0 c).before (2 : Fin 3) t0_0 d)))
def bodyPost (c : Dev nD) : sProp 𝕄 :=
  iprop(Φ₁ (F := F) c ∗ (dats m ρ 0 c).owesAt () (t0_0 : Fin cfg0.N).succ
    ∗ stage c cc0_stg0_0 (dyG m ρ c) ∗ stage c cc0_stg1_0 (wG m ρ c) ∗ stage c cc0_stg2_0 (outG m ρ c))

theorem before_dy (c : Dev nD) (d) : (dats m ρ 0 c).before (0 : Fin 3) t0_0 d = dyG m ρ c := by
  unfold Dat.before; rw [if_pos (fetch0_0 t0_0)]; rfl
theorem before_w (c : Dev nD) (d) : (dats m ρ 0 c).before (1 : Fin 3) t0_0 d = wG m ρ c := by
  unfold Dat.before; rw [if_pos (fetch0_1 t0_0)]; rfl

/-- The cells a device closed, and its scratch, after the stages. -/
theorem ended_elim (c : Dev nD) : ended m ρ c ⊢ iprop(Φ₁ (F := F) c ∗ (outM.view.loc (c : Thread nD τ) ↦{fullShare} outG m ρ c)) := by
  unfold ended Φ₁ scratch
  rw [by_chunk]
  iintro ⟨Hb, Hs, H1, H2, H3, Ho⟩
  isplitr [Ho]
  · isplitl [Hb]; · iexact Hb
    isplitl [Hs]; · iexact Hs
    isplitl [H1]; · iexists _; iexact H1
    isplitl [H2]; · iexists _; iexact H2
    iexists _; iexact H3
  iexact Ho

theorem sound_body (c : Dev nD) :
    bodyPre m ρ c ⊢ runs c (cc0_body dyM (Memref.isWhole_whole _) wM (Memref.isWhole_whole _) outM (Memref.isWhole_whole _) ypM (Memref.isWhole_whole _)
        yrM (Memref.isWhole_whole _) cmM (Memref.isWhole_whole _) cc0_scratch3 cc0_scratch4 cc0_scratch5 cc0_scratch6 cc0_scratch7)
      (fun _ => bodyPost m ρ c) := by
  rw [body_eq]
  unfold runs
  rw [wp_deviceId]
  unfold bodyPre Φ₀ start scratch Dat.owesAt Pipeline.owesWithin
  iintro ⟨⟨⟨⟨%K, HW⟩, Ht⟩, H1, H2, H3⟩, ⟨%W, %hW, HO⟩, ⟨%d0, %g0, %e0, Hdy⟩, ⟨%d1, %g1, %e1, Hw⟩, ⟨%d2, %g2, %e2, Hout⟩⟩
  rw [before_dy] at e0
  rw [before_w] at e1
  subst e0
  subst e1
  have h := wp_stages m ρ K c (α := PUnit) (fun _ => Prog.ret PUnit.unit) (fun _ => bodyPost m ρ c)
  rw [show (stages c >>= fun _ => Prog.ret PUnit.unit : BodyProg F PUnit) = stages c from bind_pure (stages c)] at h
  iapply h $$ [HW Ht H1 H2 H3 HO Hdy Hw Hout]
  · isplitl [HW]; · iexact HW
    isplitl [Ht]; · iexact Ht
    isplitl [H1 H2 H3 Hout]
    · unfold buffers
      isplitl [H1]; · iexact H1
      isplitl [H2]; · iexact H2
      isplitl [H3]; · iexact H3
      iexists g2; iexact Hout
    isplitl [Hdy Hw]
    · unfold args
      isplitl [Hdy]; · iexact Hdy
      iexact Hw
    unfold due
    iexists W; iexact HO
  iintro ⟨HA, He, Hd⟩
  ihave He := (ended_elim m ρ c) $$ He
  icases He with ⟨HΦ, Hout⟩
  unfold args due
  icases HA with ⟨Hdy, Hw⟩
  icases Hd with ⟨%W', HO⟩
  unfold runs
  rw [wp_ret]
  imodintro
  unfold bodyPost Dat.owesAt Pipeline.owesWithin
  isplitl [HΦ]; · iexact HΦ
  isplitl [HO]
  · iexists W'
    isplitr; · ipureintro; exact fun _ _ => Or.inl trivial
    iexact HO
  isplitl [Hdy]
  · iexists _; isplitr; · (ipureintro; rfl)
    iexact Hdy
  isplitl [Hw]
  · iexists _; isplitr; · (ipureintro; rfl)
    iexact Hw
  iexists _; isplitr; · (ipureintro; rfl)
  iexact Hout

set_option maxRecDepth 20000 in
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_stage]
  show bodyPre m ρ c ⊢ runs c (cc0_body dyM (Memref.isWhole_whole _) wM (Memref.isWhole_whole _) outM (Memref.isWhole_whole _) ypM (Memref.isWhole_whole _)
        yrM (Memref.isWhole_whole _) cmM (Memref.isWhole_whole _) cc0_scratch3 cc0_scratch4 cc0_scratch5 cc0_scratch6 cc0_scratch7)
      (fun _ => bodyPost m ρ c)
  exact sound_body m ρ c

/-! ## The launch -/

theorem ownSemFacts : Pipeline.OwnSemFacts cfg0.spec xsem :=
  ⟨by decide +kernel, xsem_injective, by decide +kernel⟩
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf meshCells meshToks)

/-- What the launch element deals device `c`. -/
def G (c : Dev nD) : sProp 𝕄 :=
  iprop((bigSep Finset.univ fun k => roundState ER (sched m ρ) (cell c k) 0) ∗ (bigSep Finset.univ fun k => reached ER (cell c k) 0)
    ∗ (bigSep Finset.univ fun k => atPos ER (cell c k) 0 ∅ 0) ∗ minted c)
/-- A device's positions and the tokens it pays with. -/
def own (c : Dev nD) : sProp 𝕄 := iprop((bigSep Finset.univ fun k => atPos ER (cell c k) 0 ∅ 0) ∗ dealt c)
/-- What the devices have before they start, beside the levels and the credits. -/
def G' (c : Dev nD) : sProp 𝕄 := iprop((∃ K, records m ρ K) ∗ own c)

theorem fund_mesh : BI.own (ER (initOf meshCells meshToks)) ⊢ (|==> bigSep Finset.univ (G m ρ) : sProp 𝕄) := by
  iintro HX
  imod (Rounds.fund ER (sched m ρ) meshCells meshToks) $$ HX with ⟨Hst, Hr, Hat, Htok⟩
  imodintro
  ihave Hst := (Entails.of_eq (meshCells_eq fun g => roundState ER (sched m ρ) g 0)) $$ Hst
  ihave Hat := (Entails.of_eq (meshCells_eq fun g => atPos ER g 0 ∅ 0)) $$ Hat
  ihave Hr := (Entails.of_eq (meshCells_eq fun g => reached ER g 0)) $$ Hr
  ihave Htok := (Entails.of_eq meshToks_eq) $$ Htok
  unfold G
  rw [bigSep_sep', bigSep_sep', bigSep_sep']
  isplitl [Hst]; · iexact Hst
  isplitl [Hr]; · iexact Hr
  isplitl [Hat]; · iexact Hat
  iexact Htok

theorem unscopedSems0_eq (c : Dev nD) : (unscopedSems0 c : sProp 𝕄) = semVal (barC c) 0 := by
  unfold unscopedSems0; rw [bigSep_eq_bigSepL_of_eq [SemLoc.reg barS] (by decide) (by decide)]; rfl

/-- One device's cells become invariants. -/
theorem core_alloc (c : Dev nD) :
    iprop(Pipeline.ownSems0 (Ix := Unit) (Name := ℕ) (U := UU) (Lvl := ℕ) (Val := Elt F) (τ := τ) xsem c ∗ unscopedSems0 c ∗ G m ρ c)
      ⊢ |={Set.univ}=> iprop((bigSep Finset.univ fun k => iprop(∃ κ : ℕ, cellInv ER (sched m ρ) κ (cell c k) ∗ reached ER (cell c k) 0))
          ∗ (bigSep Finset.univ fun k => atPos ER (cell c k) 0 ∅ 0) ∗ minted c) := by
  have hs : iprop(semVal (barC c) 0 ∗ Pipeline.ownSems0 (Ix := Unit) (Name := ℕ) (U := UU) (Lvl := ℕ) (Val := Elt F) (τ := τ) xsem c)
      ⊢ (bigSep Finset.univ fun k : CellIx => semVal (cell c k) 0 : sProp 𝕄) := Entails.of_eq (by rw [by_cell]; rfl)
  have ha (k : CellIx) : iprop((semVal (cell c k) 0 ∗ roundState ER (sched m ρ) (cell c k) 0) ∗ reached ER (cell c k) 0)
      ⊢ (|={Set.univ}=> ∃ κ : ℕ, cellInv ER (sched m ρ) κ (cell c k) ∗ reached ER (cell c k) 0 : sProp 𝕄) := by
    iintro ⟨H, Hr⟩
    imod ((Rounds.body_intro ER (sched m ρ) (cell c k)).trans inv_alloc) $$ H with ⟨%κ, HI⟩
    imodintro
    iexists κ
    isplitl [HI]
    · iexact HI
    · iexact Hr
  unfold G
  rw [unscopedSems0_eq]
  iintro ⟨Hos, Hus, Hst, Hr, Hat, Htok⟩
  ihave Hv := hs $$ [Hos Hus]
  · isplitl [Hus] <;> iassumption
  imod (show iprop(((bigSep Finset.univ fun k : CellIx => semVal (cell c k) 0) ∗ bigSep Finset.univ fun k : CellIx => roundState ER (sched m ρ) (cell c k) 0)
        ∗ bigSep Finset.univ fun k : CellIx => reached ER (cell c k) 0)
      ⊢ (|={Set.univ}=> bigSep Finset.univ fun k => iprop(∃ κ : ℕ, cellInv ER (sched m ρ) κ (cell c k) ∗ reached ER (cell c k) 0) : sProp 𝕄) from by
        rw [← bigSep_sep', ← bigSep_sep']
        exact (bigSep_mono fun k _ => ha k).trans (bigSep_fupd _ _)) $$ [Hv Hst Hr] with Hinv
  · isplitr [Hr]
    · isplitl [Hv] <;> iassumption
    · iexact Hr
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (cell c k) ∗ reached ER (cell c k) 0))
          ∗ (bigSep Finset.univ fun k => atPos ER (cell c k) 0 ∅ 0) ∗ minted c) : sProp 𝕄)
      ⊢ bigSep Finset.univ (G' m ρ) := by
  rw [bigSep_sep', bigSep_sep', minted_dealt,
    ← bigSep_univ_prod (fun p : Dev nD × CellIx => iprop(∃ κ : ℕ, cellInv ER (sched m ρ) κ (cell p.1 p.2) ∗ reached ER (cell p.1 p.2) 0))]
  iintro ⟨HI, Hat, Htok⟩
  ihave HK := (BI.bigSep_exists_pi Finset.univ (fun (p : Dev nD × CellIx) (κ : ℕ) =>
    (iprop(cellInv ER (sched m ρ) κ (cell p.1 p.2) ∗ reached ER (cell p.1 p.2) 0) : sProp 𝕄))) $$ HI
  icases HK with ⟨%K, #HI⟩
  iapply (with_persistent (R := records m ρ K) (Φ := own) fun c _ => show iprop(records m ρ K ∗ own c) ⊢ G' m ρ c from by
    unfold G'
    iintro ⟨H1, H2⟩
    isplitl [H1]
    · iexists K; iexact H1
    · iexact H2)
  isplitr
  · unfold records; iexact HI
  · iapply (Entails.of_eq (bigSep_sep' Finset.univ (fun c : Dev nD => bigSep Finset.univ fun k : CellIx => (atPos ER (cell c k) 0 ∅ 0 : sProp 𝕄)) dealt).symm)
    isplitl [Hat]
    · iexact Hat
    · iexact Htok

theorem glob : (bigSep Finset.univ fun c => iprop(Pipeline.ownSems0 (Ix := Unit) (Name := ℕ) (U := UU) (Lvl := ℕ) (Val := Elt F) (τ := τ) xsem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The side conditions -/

/-- A device's tokens from what it was dealt and its credits. -/
theorem tokens_intro (c : Dev nD) : iprop(own c ∗ Pipeline.launchCred O₀ c) ⊢ tokens (F := F) c := by
  rw [show (Pipeline.launchCred O₀ c : sProp 𝕄) = _ from credits c]
  unfold own dealt tokens gate ready
  rw [by_cell, by_chunk, by_chunk, bigSep_three]
  simp only [bigSep_sep']
  iintro ⟨⟨⟨Hab, Has, Har⟩, ⟨H0, H1, H2⟩, Hts, Htr⟩, Hcb, Hcr⟩
  isplitl [Hab Hcb H0 H1 H2]
  · isplitl [Hab]; · iexact Hab
    isplitl [Hcb]; · iexact Hcb
    isplitl [H0]; · iexact H0
    isplitl [H1]; · iexact H1
    iexact H2
  isplitl [Hts]; · iexact Hts
  isplitl [Htr]; · iexact Htr
  isplitl [Has]; · iexact Has
  isplitl [Har]; · iexact Har
  iexact Hcr

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, Hlev, Hcr, -, ⟨%K, HR⟩, Ho⟩
  ihave Ht := (tokens_intro (F := F) c) $$ [Ho Hcr]
  · isplitl [Ho] <;> iassumption
  imodintro
  isplitl
  · isplitr [Ht]
    · iexists K
      unfold World
      isplitl [HR]; · unfold records; iexact HR
      iexact Hlev
    iexact Ht
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]
  · iexact Hs
  · iexact Hr

theorem phi1_exit (c : Dev nD) :
    (dats m ρ 0 c).Φ (Fin.last cfg0.N) ⊢ iprop(unscopedSems0 c ∗ Pipeline.ownSems0 xsem c ∗ Pipeline.scopedRest cfg0.spec c) := by
  rw [show (dats m ρ 0 c).Φ (Fin.last cfg0.N) = Φ₁ (F := F) c from rfl, scopedRest0_eq, unscopedSems0_eq]
  unfold Φ₁ scratch Pipeline.ownSems0
  iintro ⟨Hb, Hs, Hr⟩
  isplitl [Hb]; · iexact Hb
  isplitl [Hs]
  · iexact Hs
  · iexact Hr

/-- The staging semaphores are no cells: at the bottom, below everything owed. -/
theorem stage_level : ∀ (w : Fin 3) (s : Fin ((cfg0.win w).nbuf)), ∀ k, csem k ≠ .dma ((cfg0.win w).sem s) := by
  intro w s k h
  match k with
  | none => cases h
  | some k => exact ownSemFacts.disj k w s h
theorem owed_above (c : Dev nD) : ∀ p ∈ owedAll c, 0 < levelOf p.2 := by revert c; decide +kernel

theorem waits (c : Dev nD) : (levAts L lv : sProp 𝕄) ⊢ Pipeline.cellsWaits cfgs (dats m ρ) () 0 c :=
  Pipeline.cellsWaits_intro cfgs (dats m ρ) () 0 c fun w s t => by
    have hs : (cellIx (.dma ((cfg0.win w).sem s))).elim 0 levelOf ≤ 0 := by
      unfold cellIx
      rw [dif_neg (fun ⟨k, hk⟩ => stage_level w s k hk)]
      exact Nat.le_refl 0
    rcases t with ⟨_ | _, ht⟩
    · exact mayWait_of_level c _ 0 hs (owedAll c) (owed_above c)
    · exact mayWait_of_level c _ 0 hs [] (fun p hp => nomatch hp)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution on the eight devices terminates, with the arrays as
    the proof data say and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### The arrays at the end -/

theorem finalA_dy (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Mesh

end
-- ==== Proof.KernelIdeal.Value.lean ====
/-
  What the result holds when the arithmetic is exact: on every device the whole product.

  A device's product of rows covers half of the contracted axis, the half its y stands for. The other half comes from
  its neighbour in y, the remaining blocks from the other positions. With exact arithmetic the rounding on the way changes
  nothing, so every element is the sum of the two halves, which is the sum over the whole axis.
-/
module

public import proofs.«01_k».proof.Proof.KernelIdeal.Launch
public import proofs.«01_k».proof.Proof.Gen.ReferenceIdeal.Read
public import Idealize.ShloMosaic.Lib.Layout
public import Idealize.ShloMosaic.Lib.Pipeline.ValueKit.Geometry

@[expose] public section

noncomputable section

namespace Cert.KernelIdeal.Mesh

open Idealize.ShloMosaic Idealize.ShloMosaic.TcCoe
open Idealize.SL.Sem
open Idealize.ShloMosaic.Pipeline
open Cert.KernelIdeal.Gen

/-! ## The result array after the run -/

section AnyFloat

variable {F : FTy → Type} [FloatOps F]
variable (m : (ℓ : Loc nD τ sig) → Buf (Elt F) ℓ) (ρ : Dev nD → PrngReg)

theorem finalA_out (c : Dev nD) : finalA m ρ c (2 : Fin 3) = outG m ρ c :=
  (dats m ρ 0 c).arrAt_eq_of_after_last (2 : Fin 3) t0_0 (by decide +kernel) (outG m ρ c) fun j => rfl

/-- The one block of each argument is the argument. -/
theorem dyG_eq (c : Dev nD) : dyG m ρ c = m ((c : Thread nD τ).loc main_arg0) := by
  funext i
  show m ((c : Thread nD τ).loc main_arg0) ((win0_0.blk (0 : Fin 1)).view.emb i) = _
  congr 1
  funext a
  match a with
  | 0 => exact Fin.ext (show 0 * 512 + 1 * (i 0).val = (i 0).val by omega)
  | 1 => exact Fin.ext (show 0 * 2048 + 1 * (i 1).val = (i 1).val by omega)
theorem wG_eq (c : Dev nD) : wG m ρ c = m ((c : Thread nD τ).loc main_arg1) := by
  funext i
  show m ((c : Thread nD τ).loc main_arg1) ((win0_1.blk (0 : Fin 1)).view.emb i) = _
  congr 1
  funext a
  match a with
  | 0 => exact Fin.ext (show 0 * 512 + 1 * (i 0).val = (i 0).val by omega)
  | 1 => exact Fin.ext (show 0 * 2048 + 1 * (i 1).val = (i 1).val by omega)

end AnyFloat

/-! ## One product of rows -/

variable (m : (ℓ : Loc nD τ sig) → Buf (Elt Ideal) ℓ) (ρ : Dev nD → PrngReg)

/-- Row `a`, column `k` of a device's half of an argument. -/
abbrev at2 (a : Fin 512) (k : Fin 2048) : S512x2048.Idx := fun | 0 => a | 1 => k

/-- Row `a` of one half of an argument times row `b` of another. -/
def rowProduct (f g : S512x2048.Idx → EReal) (a b : Fin 512) : EReal := ∑ k : Fin 2048, f (at2 a k) * g (at2 b k)
/-- Row `a` of the first argument times row `b` of the second, over the half of the columns that device `d` has. -/
def half (d : Dev nD) (a b : Fin 512) : EReal := rowProduct (dyG m ρ d) (wG m ρ d) a b

/-- The product's axes: both factors are contracted along their columns. -/
abbrev dims : DotDims S32x2048 S512x2048 S32x512 := dot_S32x2048_S512x2048_S32x512_1_1_0_0_n_n

theorem lhs_row (i : S32x512.Idx) (q : dims.contr.Idx) : (dims.lhsIdx i q 0).val = (i 0).val := by
  unfold DotDims.lhsIdx
  rw [dif_neg (show ¬(0 : Fin S32x2048.rank) ∈ dims.lhsBatch by decide), dif_pos (show (0 : Fin S32x2048.rank) ∈ dims.lhsNonContracting by decide)]
  rfl
theorem lhs_col (i : S32x512.Idx) (q : dims.contr.Idx) : (dims.lhsIdx i q 1).val = (q ⟨0, by decide⟩).val := dims.lhsIdx_val_of_single rfl i q
theorem rhs_row (i : S32x512.Idx) (q : dims.contr.Idx) : (dims.rhsIdx i q 0).val = (i 1).val := by
  unfold DotDims.rhsIdx
  rw [dif_neg (show ¬(0 : Fin S512x2048.rank) ∈ dims.rhsBatch by decide), dif_pos (show (0 : Fin S512x2048.rank) ∈ dims.rhsNonContracting by decide)]
  rfl
theorem rhs_col (i : S32x512.Idx) (q : dims.contr.Idx) : (dims.rhsIdx i q 1).val = (q ⟨0, by decide⟩).val := dims.rhsIdx_val_of_single rfl i q

theorem prod_apply (c : Dev nD) (r : Fin 4) (x : S32x512.Idx) (a b : Fin 512)
    (ha : a.val = 256 * cx c + 128 * cz c + 32 * r.val + (x 0).val) (hb : b.val = (x 1).val) :
    prod m ρ c r x = half m ρ c a b := by
  unfold prod k0_pay1
  simp only [matmul, shapeCast_self]
  rw [Ideal.matmul_constant_zero_apply, ← Equiv.sum_comp (ValueIdx.contrEquiv1 dims 2048 rfl rfl).symm]
  unfold half rowProduct
  refine Finset.sum_congr rfl fun k _ => ?_
  have hk := ValueIdx.contrEquiv1_symm_val dims 2048 rfl rfl k
  generalize (ValueIdx.contrEquiv1 dims 2048 rfl rfl).symm k = q at hk ⊢
  have e0 : (rectDy (off32 c r) (offDy_inb c r)).toLoadRect.idx (dims.lhsIdx x q) = at2 a k := by
    funext t
    match t with
    | 0 =>
      refine Fin.ext ?_
      show (256 * cx c + 128 * cz c + 32 * r.val) + 1 * (dims.lhsIdx x q 0).val = a.val
      rw [lhs_row, ha]; omega
    | 1 =>
      refine Fin.ext ?_
      show 0 + 1 * (dims.lhsIdx x q 1).val = k.val
      rw [lhs_col, hk]; omega
  have e1 : rectW.toLoadRect.idx (dims.rhsIdx x q) = at2 b k := by
    funext t
    match t with
    | 0 =>
      refine Fin.ext ?_
      show 0 + 1 * (dims.rhsIdx x q 0).val = b.val
      rw [rhs_row, hb]; omega
    | 1 =>
      refine Fin.ext ?_
      show 0 + 1 * (dims.rhsIdx x q 1).val = k.val
      rw [rhs_col, hk]; omega
  rw [View.readAt_apply, View.readAt_apply, e0, e1]
  rfl

theorem cx_yp (c : Dev nD) : cx (yp c) = cx c := by revert c; decide
theorem cz_yp (c : Dev nD) : cz (yp c) = cz c := by revert c; decide

/-- Both halves of a sum, of the device's own and its neighbour's columns. -/
theorem total_apply (c : Dev nD) (r : Fin 4) (x : S32x512.Idx) (a b : Fin 512)
    (ha : a.val = 256 * cx c + 128 * cz c + 32 * r.val + (x 0).val) (hb : b.val = (x 1).val) :
    total m ρ c r x = half m ρ c a b + half m ρ (yp c) a b := by
  have hy : a.val = 256 * cx (yp c) + 128 * cz (yp c) + 32 * r.val + (x 0).val := by
    rw [ha, cx_yp, cz_yp]
  rw [← prod_apply m ρ c r x a b ha hb, ← prod_apply m ρ (yp c) r x a b hy hb]
  unfold total part k0_pay9 k0_pay2
  simp only [shapeCast_self]
  rfl

/-- Rounding and widening change nothing. -/
theorem widened_eq (c : Dev nD) (r : Fin 4) : widened m ρ c r = total m ρ c r := by
  unfold widened rounded k0_pay17 k0_pay10
  simp only [shapeCast_self]
  rfl

theorem outG_apply (c : Dev nD) (i : S512x512.Idx) :
    ∃ d : Dev nD, outG m ρ c i = half m ρ d (i 0) (i 1) + half m ρ (yp d) (i 0) (i 1) := by
  have h0 : (i 0).val < 512 := (i 0).isLt
  have hq : (i 0).val / 32 / 4 < 4 := by omega
  have key : ∀ (c : Dev nD) (b : Fin 4), 256 * cx (mate c b.val) + 128 * cz (mate c b.val) = 128 * b.val := by decide
  have hrow := key c ⟨(i 0).val / 32 / 4, hq⟩
  refine ⟨mate c ((i 0).val / 32 / 4), ?_⟩
  refine Eq.trans ?_ (total_apply m ρ (mate c ((i 0).val / 32 / 4)) (chunk ((i 0).val / 32))
    (fun | 0 => ⟨(i 0).val % 32, Nat.mod_lt _ (by decide)⟩ | 1 => i 1) (i 0) (i 1) ?_ rfl)
  · show (if (i 0).val / 32 / 4 = blockOf c then total m ρ c (chunk ((i 0).val / 32))
        else widened m ρ (mate c ((i 0).val / 32 / 4)) (chunk ((i 0).val / 32))) _ = _
    rw [widened_eq]
    split
    · next h => rw [h, mate_self]; rfl
    · rfl
  · show (i 0).val = 256 * cx _ + 128 * cz _ + 32 * ((i 0).val / 32 % 4) + (i 0).val % 32
    rw [hrow]
    show (i 0).val = 128 * ((i 0).val / 32 / 4) + _ + _
    omega

/-! ## The whole product -/

abbrev Whole : Type := (⟨2, ![512, 4096]⟩ : Shape).Idx → EReal
/-- Row `a`, column `k` of a whole argument. -/
abbrev wh (a : Fin 512) (k : Fin 4096) : (⟨2, ![512, 4096]⟩ : Shape).Idx := fun | 0 => a | 1 => k

/-- The product's sum over half `y` of the columns. -/
def sumHalf (A B : Whole) (a b : Fin 512) (y : ℕ) (hy : y < 2) : EReal :=
  ∑ k : Fin 2048, A (wh a ⟨2048 * y + k.val, by omega⟩) * B (wh b ⟨2048 * y + k.val, by omega⟩)

theorem cy_lt (d : Dev nD) : cy d < 2 := Nat.mod_lt _ (by decide)

/-- The arguments as the devices hold them: each its y's half of the columns. -/
def Split (A B : Whole) : Prop := ∀ c : Dev nD,
  m ((c : Thread nD τ).loc main_arg0) = Layout.blockN ⟨2, ![512, 2048]⟩ ⟨2, ![512, 4096]⟩ (Layout.meshBlock [2, 2, 2] ![[], [1]] c) A
  ∧ m ((c : Thread nD τ).loc main_arg1) = Layout.blockN ⟨2, ![512, 2048]⟩ ⟨2, ![512, 4096]⟩ (Layout.meshBlock [2, 2, 2] ![[], [1]] c) B

/-- Where a device's element lies in the whole. -/
theorem idx_at2 (d : Dev nD) (a : Fin 512) (k : Fin 2048) (h : Layout.TilesN ⟨2, ![512, 2048]⟩ ⟨2, ![512, 4096]⟩ _) :
    h.idx (Layout.meshBlock [2, 2, 2] ![[], [1]] d) (at2 a k) = wh a ⟨2048 * cy d + k.val, by have := cy_lt d; omega⟩ := by
  funext t
  match t with
  | 0 =>
    refine Fin.ext ?_
    show 0 * 512 + a.val = a.val
    omega
  | 1 =>
    refine Fin.ext ?_
    have e : Layout.meshLin [2, 2, 2] d.val [1] = cy d := by revert d; decide
    show Layout.meshLin [2, 2, 2] d.val [1] * 2048 + k.val = 2048 * cy d + k.val
    rw [e]; omega

variable {m}

theorem half_eq {A B : Whole} (hs : Split m A B) (d : Dev nD) (a b : Fin 512) :
    half m ρ d a b = sumHalf A B a b (cy d) (cy_lt d) := by
  unfold half rowProduct sumHalf
  refine Finset.sum_congr rfl fun k _ => ?_
  rw [dyG_eq, wG_eq, (hs d).1, (hs d).2, Layout.blockN_apply, Layout.blockN_apply, idx_at2, idx_at2]

/-- The two halves of the columns are all of them. -/
theorem sum_halves (A B : Whole) (a b : Fin 512) :
    sumHalf A B a b 0 (by decide) + sumHalf A B a b 1 (by decide) = ∑ k : Fin 4096, A (wh a k) * B (wh b k) := by
  refine Eq.trans ?_ (Fin.sum_univ_add (a := 2048) (b := 2048) (fun k : Fin (2048 + 2048) => A (wh a k) * B (wh b k))).symm
  unfold sumHalf
  refine congrArg₂ (· + ·) (Finset.sum_congr rfl fun k _ => ?_) (Finset.sum_congr rfl fun k _ => ?_)
  · rw [show (⟨2048 * 0 + k.val, by omega⟩ : Fin 4096) = Fin.castAdd 2048 k from Fin.ext (by show 2048 * 0 + k.val = k.val; omega)]
  · rw [show (⟨2048 * 1 + k.val, by omega⟩ : Fin 4096) = Fin.natAdd 2048 k from Fin.ext (by show 2048 * 1 + k.val = 2048 + k.val; omega)]

theorem both_halves (A B : Whole) (a b : Fin 512) (d : Dev nD) :
    sumHalf A B a b (cy d) (cy_lt d) + sumHalf A B a b (cy (yp d)) (cy_lt (yp d)) = ∑ k : Fin 4096, A (wh a k) * B (wh b k) := by
  have hy : cy (yp d) = 1 - cy d := by revert d; decide
  have h2 := cy_lt d
  have go : ∀ (y z : ℕ) (hy : y < 2) (hz : z < 2), z = 1 - y →
      sumHalf A B a b y hy + sumHalf A B a b z hz = ∑ k : Fin 4096, A (wh a k) * B (wh b k) := by
    intro y z hy hz e
    subst e
    match y, hy with
    | 0, _ => exact sum_halves A B a b
    | 1, _ => exact (add_comm _ _).trans (sum_halves A B a b)
  exact go _ _ _ _ hy

/-- The reference's result, element by element. -/
theorem reference_apply (A B : Whole) (i : S512x512.Idx) :
    Cert.ReferenceIdeal.Read.val_main_v1 (F := Ideal) A B i = ∑ k : Fin 4096, A (wh (i 0) k) * B (wh (i 1) k) := by
  rw [Cert.ReferenceIdeal.Read.val_main_v1_apply]
  refine Finset.sum_congr rfl fun k _ => ?_
  rw [Cert.ReferenceIdeal.Read.val_main_v0_apply]
  refine congrArg₂ (· * ·) (congrArg A ?_) (congrArg B ?_)
  · funext t
    match t with
    | 0 => rfl
    | 1 => rfl
  · funext t
    match t with
    | 0 => rfl
    | 1 => rfl

/-- Every device ends with the whole product. -/
theorem outG_eq {A B : Whole} (hs : Split m A B) (c : Dev nD) :
    outG m ρ c = Cert.ReferenceIdeal.Read.val_main_v1 (F := Ideal) A B := by
  funext i
  obtain ⟨d, hd⟩ := outG_apply m ρ c i
  exact hd.trans ((congrArg₂ (· + ·) (half_eq ρ hs d (i 0) (i 1)) (half_eq ρ hs (yp d) (i 0) (i 1))).trans
    ((both_halves A B (i 0) (i 1) d).trans (reference_apply A B i).symm))

end Cert.KernelIdeal.Mesh

end
-- ==== Proof.lean ====
/-
  The claim: the kernel, as printed and at exact arithmetic, runs, leaves its arguments and every semaphore as they were,
  and so does the reference; and at exact arithmetic every device ends with the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Launch
public import proofs.«01_k».proof.Proof.KernelIdeal.Launch
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem

theorem frame_kernel : Cert.quiescent_Kernel := fun m g _ =>
  (θ_run _ _ _).mono (fun r h => ⟨fun c =>
    ⟨(h.1 c (0 : Fin 3)).trans (Cert.Kernel.Mesh.finalA_dy m g c), (h.1 c (1 : Fin 3)).trans (Cert.Kernel.Mesh.finalA_w m g c)⟩, h.2⟩)
    (Cert.Kernel.Mesh.run_main m g)

theorem frame_kernelIdeal : Cert.quiescent_KernelIdeal := fun m g _ =>
  (θ_run _ _ _).mono (fun r h => ⟨fun c =>
    ⟨(h.1 c (0 : Fin 3)).trans (Cert.KernelIdeal.Mesh.finalA_dy m g c), (h.1 c (1 : Fin 3)).trans (Cert.KernelIdeal.Mesh.finalA_w m g c)⟩, h.2⟩)
    (Cert.KernelIdeal.Mesh.run_main m g)

/-- The reference has no semaphore. -/
theorem frame_reference : Cert.quiescent_ReferenceIdeal := fun m g _ =>
  (θ_run _ _ _).mono (fun r h => ⟨fun c => (h c).2, sem_eq_zero_of_no_sems rfl r.2⟩) (Cert.ReferenceIdeal.Value.run m g)

theorem value : Cert.algebraic_KernelIdeal_ReferenceIdeal := fun m g m' g' _ hsplit =>
  ⟨_,
    (θ_run _ _ _).mono (fun r h c =>
      ⟨((h.1 c (2 : Fin 3)).trans (Cert.KernelIdeal.Mesh.finalA_out m g c)).trans (Cert.KernelIdeal.Mesh.outG_eq g hsplit c),
        (h.1 c (0 : Fin 3)).trans (Cert.KernelIdeal.Mesh.finalA_dy m g c),
        (h.1 c (1 : Fin 3)).trans (Cert.KernelIdeal.Mesh.finalA_w m g c)⟩)
      (Cert.KernelIdeal.Mesh.run_main m g),
    (θ_run _ _ _).mono (fun r h => h 0) (Cert.ReferenceIdeal.Value.run m' g')⟩

theorem claim : Cert.Claim :=
  ⟨Cert.Kernel.Gen.facts, Cert.KernelIdeal.Gen.facts, Cert.ReferenceIdeal.Gen.facts,
    frame_kernel, frame_kernelIdeal, frame_reference, trivial, value⟩

end Cert.Proof

end
